-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "inv_tau_log2e" .f32 0x41E6D4CA#32 ((20 * (Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x256 : Shape := ⟨3, ![16, 1024, 256]⟩
abbrev S16x1024 : Shape := ⟨2, ![16, 1024]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg4 : FVec F S16x1024 .f32) (main_v3 : IVec S_ 1) (main_v7 : IVec S_ 1) (main_v11 : IVec S_ 1) (main_v15 : IVec S_ 1) : IVec S_ 1 :=
  let main_v16 : FVec F S16x1024 .f32 := Host.absf main_arg4
  let main_cst_6 : FVec F S_ .f32 := constant S_ .f32 0x7F800000#32
  let main_v17 : FVec F S16x1024 .f32 := broadcastInDim S16x1024 ![] bcast_S_S16x1024 main_cst_6
  let main_v18 : IVec S16x1024 1 := cmpf .olt main_v16 main_v17
  let main_c_7 : IVec S_ 1 := constantI S_ 1 1#1
  let main_v19 : IVec S_ 1 := (fun x v => Host.reduce IntOp.andi x v reducesTo_S16x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16x1024x256 .f32) (main_arg1 : FVec F S16x1024 .f32) (main_arg2 : FVec F S16x1024x256 .f32) (main_arg3 : FVec F S16x1024 .f32) (main_arg4 : FVec F S16x1024 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : FVec F S16x1024x256 .f32 := Host.absf main_arg2
  let main_cst_2 : FVec F S_ .f32 := constant S_ .f32 0x7F800000#32
  let main_v9 : FVec F S16x1024x256 .f32 := broadcastInDim S16x1024x256 ![] bcast_S_S16x1024x256 main_cst_2
  let main_v10 : IVec S16x1024x256 1 := cmpf .olt main_v8 main_v9
  let main_c_3 : IVec S_ 1 := constantI S_ 1 1#1
  let main_v11 : IVec S_ 1 := (fun x v => Host.reduce IntOp.andi x v reducesTo_S16x1024x256_S_d0_1_2 h_S_) main_v10 main_c_3
  let main_v12 : FVec F S16x1024 .f32 := Host.absf main_arg3
  let main_cst_4 : FVec F S_ .f32 := constant S_ .f32 0x7F800000#32
  let main_v13 : FVec F S16x1024 .f32 := broadcastInDim S16x1024 ![] bcast_S_S16x1024 main_cst_4
  let main_v14 : IVec S16x1024 1 := cmpf .olt main_v12 main_v13
  let main_c_5 : IVec S_ 1 := constantI S_ 1 1#1
  let main_v15 : IVec S_ 1 := (fun x v => Host.reduce IntOp.andi x v reducesTo_S16x1024_S_d0_1 h_S_) main_v14 main_c_5
  fn_part1 (F := F) main_arg4 main_v3 main_v7 main_v11 main_v15
-- ==== Kernel.lean ====
abbrev S16x1024x256 : Shape := ⟨3, ![16, 1024, 256]⟩
abbrev S16x1024 : Shape := ⟨2, ![16, 1024]⟩
abbrev S1x1024x256 : Shape := ⟨3, ![1, 1024, 256]⟩
abbrev S1024x1024 : Shape := ⟨2, ![1024, 1024]⟩
abbrev S1024x128 : Shape := ⟨2, ![1024, 128]⟩
abbrev S1x1024 : Shape := ⟨2, ![1, 1024]⟩
abbrev S128x128 : Shape := ⟨2, ![128, 128]⟩
abbrev S1x128 : Shape := ⟨2, ![1, 128]⟩
abbrev S1 : Shape := ⟨1, ![1]⟩
abbrev S1x1 : Shape := ⟨2, ![1, 1]⟩
abbrev S1x128x256 : Shape := ⟨3, ![1, 128, 256]⟩
abbrev S128x256 : Shape := ⟨2, ![128, 256]⟩
abbrev S1024x256 : Shape := ⟨2, ![1024, 256]⟩
abbrev S128x1024 : Shape := ⟨2, ![128, 1024]⟩
abbrev S1024 : Shape := ⟨1, ![1024]⟩
abbrev S128 : Shape := ⟨1, ![128]⟩
abbrev S128x1 : Shape := ⟨2, ![128, 1]⟩
abbrev S1x1x1024 : Shape := ⟨3, ![1, 1, 1024]⟩
abbrev S1x1x1 : Shape := ⟨3, ![1, 1, 1]⟩
abbrev S128x896 : Shape := ⟨2, ![128, 896]⟩
abbrev S128x768 : Shape := ⟨2, ![128, 768]⟩
abbrev S128x640 : Shape := ⟨2, ![128, 640]⟩
abbrev S128x384 : Shape := ⟨2, ![128, 384]⟩
abbrev S128x512 : Shape := ⟨2, ![128, 512]⟩

abbrev nBuf : Space → Nat
  | .hbm => 10
  | .vmem => 20
  | .smem => 0
  | _ => 0

abbrev bufTy : (tb : Table) → Fin (tcTables nBuf tb) → BufTy
  | .hbm, ⟨0, _⟩ => ⟨S16x1024x256, .f32⟩
  | .hbm, ⟨1, _⟩ => ⟨S16x1024, .f32⟩
  | .hbm, ⟨2, _⟩ => ⟨S16x1024x256, .f32⟩
  | .hbm, ⟨3, _⟩ => ⟨S16x1024, .f32⟩
  | .hbm, ⟨4, _⟩ => ⟨S16x1024, .f32⟩
  | .hbm, ⟨5, _⟩ => ⟨S16x1024x256, .fp8e4m3⟩
  | .hbm, ⟨6, _⟩ => ⟨S16x1024x256, .fp8e4m3⟩
  | .hbm, ⟨7, _⟩ => ⟨S16x1024, .f32⟩
  | .hbm, ⟨8, _⟩ => ⟨S16x1024x256, .bf16⟩
  | .hbm, ⟨9, _⟩ => ⟨S16x1024x256, .bf16⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S1x1024x256, .fp8e4m3⟩
  | .local _ .vmem, ⟨4, _⟩ => ⟨S1x1024x256, .fp8e4m3⟩
  | .local _ .vmem, ⟨5, _⟩ => ⟨S1x1024x256, .fp8e4m3⟩
  | .local _ .vmem, ⟨6, _⟩ => ⟨S1x1024x256, .fp8e4m3⟩
  | .local _ .vmem, ⟨7, _⟩ => ⟨S16x1024, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1024x1024, .f32⟩
  | .local _ .vmem, ⟨13, _⟩ => ⟨S1024x128, .f32⟩
  | .local _ .vmem, ⟨14, _⟩ => ⟨S1x1024, .f32⟩
  | .local _ .vmem, ⟨15, _⟩ => ⟨S1024x128, .f32⟩
  | .local _ .vmem, ⟨16, _⟩ => ⟨S1024x1024, .bf16⟩
  | .local _ .vmem, ⟨17, _⟩ => ⟨S1024x128, .f32⟩
  | .local _ .vmem, ⟨18, _⟩ => ⟨S1x1024, .f32⟩
  | .local _ .vmem, ⟨19, _⟩ => ⟨S1x1024, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
@[reducible] def k0_t1_loop : Scf.Loop 32 :=
  let c0_i32_255 : BitVec 32 := 0#32
  let c8_i32 : BitVec 32 := 8#32
  let v590 : BitVec 32 := Scalar.addi c0_i32_255 c8_i32
  let c1_i32 : BitVec 32 := 1#32
  ⟨c0_i32_255, v590, c1_i32⟩
def k0_off2 (k0_t1 : Fin k0_t1_loop.trips) : Fin 3 → Nat :=
  let c0_272 : Index := 0#32
  let c0_i32_255 : BitVec 32 := 0#32
  let c1_i32 : BitVec 32 := 1#32
  let arg17 : BitVec 32 := Scf.iv c0_i32_255 c1_i32 k0_t1
  let c128_i32 : BitVec 32 := 128#32
  let v607 : BitVec 32 := Scalar.muli arg17 c128_i32
  let v608 : Index := Scalar.indexCast v607
  let c0_273 : Index := 0#32
  ![0, v608.toNat, 0]
def k0_off3 (k0_t1 : Fin k0_t1_loop.trips) : Fin 2 → Nat :=
  let c0_i32_255 : BitVec 32 := 0#32
  let c1_i32 : BitVec 32 := 1#32
  let arg17 : BitVec 32 := Scf.iv c0_i32_255 c1_i32 k0_t1
  let c128_i32 : BitVec 32 := 128#32
  let v607 : BitVec 32 := Scalar.muli arg17 c128_i32
  let v614 : Index := Scalar.indexCast v607
  let c0_278 : Index := 0#32
  ![v614.toNat, 0]
def k0_off4 (k0_t1 : Fin k0_t1_loop.trips) : Fin 2 → Nat :=
  let c0_i32_255 : BitVec 32 := 0#32
  let c1_i32 : BitVec 32 := 1#32
  let arg17 : BitVec 32 := Scf.iv c0_i32_255 c1_i32 k0_t1
  let c128_i32 : BitVec 32 := 128#32
  let v607 : BitVec 32 := Scalar.muli arg17 c128_i32
  let v620 : Index := Scalar.indexCast v607
  let c0_279 : Index := 0#32
  ![v620.toNat, 0]
@[reducible] def k0_t2_loop : Scf.Loop 32 :=
  let c0_i32_258 : BitVec 32 := 0#32
  let c8_i32_259 : BitVec 32 := 8#32
  let v593 : BitVec 32 := Scalar.addi c0_i32_258 c8_i32_259
  let c1_i32_260 : BitVec 32 := 1#32
  ⟨c0_i32_258, v593, c1_i32_260⟩
def k0_off5 (k0_t2 : Fin k0_t2_loop.trips) : Fin 2 → Nat :=
  let c0_i32_258 : BitVec 32 := 0#32
  let c1_i32_260 : BitVec 32 := 1#32
  let arg17 : BitVec 32 := Scf.iv c0_i32_258 c1_i32_260 k0_t2
  let c128_i32 : BitVec 32 := 128#32
  let v607 : BitVec 32 := Scalar.muli arg17 c128_i32
  let v608 : Index := Scalar.indexCast v607
  let c0_272 : Index := 0#32
  ![v608.toNat, 0]
def k0_off6 (k0_t2 : Fin k0_t2_loop.trips) : Fin 2 → Nat :=
  let c0_i32_258 : BitVec 32 := 0#32
  let c1_i32_260 : BitVec 32 := 1#32
  let arg17 : BitVec 32 := Scf.iv c0_i32_258 c1_i32_260 k0_t2
  let c128_i32 : BitVec 32 := 128#32
  let v607 : BitVec 32 := Scalar.muli arg17 c128_i32
  let v610 : Index := Scalar.indexCast v607
  let c0_273 : Index := 0#32
  ![v610.toNat, 0]
@[reducible] def k0_t3_loop : Scf.Loop 32 :=
  let c0_i32_265 : BitVec 32 := 0#32
  let c8_i32_266 : BitVec 32 := 8#32
  let v602 : BitVec 32 := Scalar.addi c0_i32_265 c8_i32_266
  let c1_i32_267 : BitVec 32 := 1#32
  ⟨c0_i32_265, v602, c1_i32_267⟩
def k0_off7 (k0_t3 : Fin k0_t3_loop.trips) : Fin 2 → Nat :=
  let c0_i32_265 : BitVec 32 := 0#32
  let c1_i32_267 : BitVec 32 := 1#32
  let arg17 : BitVec 32 := Scf.iv c0_i32_265 c1_i32_267 k0_t3
  let c128_i32 : BitVec 32 := 128#32
  let v607 : BitVec 32 := Scalar.muli arg17 c128_i32
  let v608 : Index := Scalar.indexCast v607
  let c0_272 : Index := 0#32
  ![v608.toNat, 0]
def k0_off8 (k0_t3 : Fin k0_t3_loop.trips) : Fin 2 → Nat :=
  let c0_i32_265 : BitVec 32 := 0#32
  let c1_i32_267 : BitVec 32 := 1#32
  let arg17 : BitVec 32 := Scf.iv c0_i32_265 c1_i32_267 k0_t3
  let c128_i32 : BitVec 32 := 128#32
  let v607 : BitVec 32 := Scalar.muli arg17 c128_i32
  let v610 : Index := Scalar.indexCast v607
  let c0_273 : Index := 0#32
  ![v610.toNat, 0]
def k0_mult1 (k0_t3 : Fin k0_t3_loop.trips) : BitVec 32 :=
  let c0_i32_265 : BitVec 32 := 0#32
  let c1_i32_267 : BitVec 32 := 1#32
  let arg17 : BitVec 32 := Scf.iv c0_i32_265 c1_i32_267 k0_t3
  let c128_i32_274 : BitVec 32 := 128#32
  let v612 : BitVec 32 := Scalar.muli arg17 c128_i32_274
  v612
def k0_off9 (k0_t3 : Fin k0_t3_loop.trips) : Fin 2 → Nat :=
  let c0_i32_265 : BitVec 32 := 0#32
  let c1_i32_267 : BitVec 32 := 1#32
  let arg17 : BitVec 32 := Scf.iv c0_i32_265 c1_i32_267 k0_t3
  let c128_i32 : BitVec 32 := 128#32
  let v607 : BitVec 32 := Scalar.muli arg17 c128_i32
  let v614 : Index := Scalar.indexCast v607
  let c128_i32_274 : BitVec 32 := 128#32
  let v612 : BitVec 32 := Scalar.muli arg17 c128_i32_274
  let v613 : BitVec 32 := v612
  let v615 : Index := Scalar.indexCast v613
  ![v614.toNat, v615.toNat]
def k0_off10 (k0_t3 : Fin k0_t3_loop.trips) : Fin 2 → Nat :=
  let c0_279 : Index := 0#32
  let c0_i32_265 : BitVec 32 := 0#32
  let c1_i32_267 : BitVec 32 := 1#32
  let arg17 : BitVec 32 := Scf.iv c0_i32_265 c1_i32_267 k0_t3
  let c128_i32_274 : BitVec 32 := 128#32
  let v612 : BitVec 32 := Scalar.muli arg17 c128_i32_274
  let v613 : BitVec 32 := v612
  let v625 : Index := Scalar.indexCast v613
  ![0, v625.toNat]
def k0_off11 (i : grid0.Coords) : Fin 2 → Nat :=
  let arg0 : BitVec 32 := BitVec.ofNat 32 (i 0).val
  let v404 : Index := Scalar.indexCast arg0
  let c0_181 : Index := 0#32
  ![v404.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_tau_log2e" => some ((20 * (Real.log 2)⁻¹ : ℝ) : EReal)
  | "ln2" => some ((Real.log 2 : ℝ) : EReal)
  | "log2e" => some (((Real.log 2)⁻¹ : ℝ) : EReal)
  | _ => none
-- ==== ReferenceIdeal.lean ====
abbrev S16x1024x256 : Shape := ⟨3, ![16, 1024, 256]⟩
abbrev S16x1024 : Shape := ⟨2, ![16, 1024]⟩
abbrev S16x1024x1024 : Shape := ⟨3, ![16, 1024, 1024]⟩
abbrev S16x1024x1 : Shape := ⟨3, ![16, 1024, 1]⟩
abbrev S16x1x1024 : Shape := ⟨3, ![16, 1, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16x1024x256, .f32⟩
  | .hbm, ⟨1, _⟩ => ⟨S16x1024, .f32⟩
  | .hbm, ⟨2, _⟩ => ⟨S16x1024x256, .f32⟩
  | .hbm, ⟨3, _⟩ => ⟨S16x1024, .f32⟩
  | .hbm, ⟨4, _⟩ => ⟨S16x1024, .f32⟩
  | .hbm, ⟨5, _⟩ => ⟨S16x1024x256, .fp8e4m3⟩
  | .hbm, ⟨6, _⟩ => ⟨S16x1024x256, .fp8e4m3⟩
  | .hbm, ⟨7, _⟩ => ⟨S16x1024, .f32⟩
  | .hbm, ⟨8, _⟩ => ⟨S16x1024x256, .bf16⟩
  | .hbm, ⟨9, _⟩ => ⟨S16x1024x256, .bf16⟩
  | .local _ .vmem, ⟨0, _⟩ => ⟨S16x1024x256, .fp8e4m3⟩
  | .local _ .vmem, ⟨1, _⟩ => ⟨S16x1024, .f32⟩
  | .local _ .vmem, ⟨2, _⟩ => ⟨S16x1024x256, .fp8e4m3⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024x256, .bf16⟩
  | .local _ .vmem, ⟨7, _⟩ => ⟨S16x1024x256, .bf16⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x1024x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRun.lean ====
/-
  The kernel's body of `Kernel`, run once: from its eight window buffers and its eight scratch buffers at any contents it
  runs to its end and hands every buffer back, the five inputs as they were. The data-dependent branch (the slow path
  for group sums out of range) is taken both ways.
-/
module

public import proofs.«01_k».proof.Proof.Gen.Kernel.Frame
public import proofs.«01_k».proof.Proof.Gen.Kernel.Loops

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

set_option maxHeartbeats 2000000 in
/-- The body runs, whatever the buffers hold; the inputs end as they were. -/
theorem body_runs (c : Dev nD) (i : grid0.Coords) (arg1 : Memref sig .tc .vmem S16x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1x1024x256 .fp8e4m3) (harg4 : arg4.IsWhole) (arg5 : Memref sig .tc .vmem S1x1024x256 .fp8e4m3) (harg5 : arg5.IsWhole) (arg6 : Memref sig .tc .vmem S16x1024 .f32) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1x1024 .f32) (harg15 : arg15.IsWhole) (arg16 : Memref sig .tc .vmem S1x1024 .f32) (harg16 : arg16.IsWhole)
    (x0 : Vec F S16x1024 .f32) (x1 : Vec F S16x1024 .f32) (x2 : Vec F S16x1024 .f32) (x3 : Vec F S1x1024x256 .fp8e4m3) (x4 : Vec F S1x1024x256 .fp8e4m3)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_inbatch_softmax i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inbatch_softmax_eq_skeleton]; unfold cc0_inbatch_softmax_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4
  sl_exec
  split
  all_goals
   sl_exec
   sl_step
   iapply Hk
   isplitl [H0]
   · iexists _; isplitr; · ipureintro; exact harg1.read_unread _
     iexact H0
   isplitl [H1]
   · iexists _; isplitr; · ipureintro; exact harg2.read_unread _
     iexact H1
   isplitl [H2]
   · iexists _; isplitr; · ipureintro; exact harg3.read_unread _
     iexact H2
   isplitl [H3]
   · iexists _; isplitr; · ipureintro; exact harg4.read_unread _
     iexact H3
   isplitl [H4]
   · iexists _; isplitr; · ipureintro; exact harg5.read_unread _
     iexact H4
   isplitl [H5]
   · iexists _, _; isplitr; swap; · iexact H5
     ipureintro; rfl
   isplitl [H6]
   · iexists _, _; isplitr; swap; · iexact H6
     ipureintro; rfl
   isplitl [H7]
   · iexists _, _; isplitr; swap; · iexact H7
     ipureintro; rfl
   isplitl [H8]
   · iexists _, _; isplitr; swap; · iexact H8
     ipureintro; rfl
   isplitl [H9]
   · iexists _, _; isplitr; swap; · iexact H9
     ipureintro; rfl
   isplitl [H10]
   · iexists _, _; isplitr; swap; · iexact H10
     ipureintro; rfl
   isplitl [H11]
   · iexists _, _; isplitr; swap; · iexact H11
     ipureintro; rfl
   isplitl [H12]
   · iexists _, _; isplitr; swap; · iexact H12
     ipureintro; rfl
   isplitl [H13]
   · iexists _, _; isplitr; swap; · iexact H13
     ipureintro; rfl
   isplitl [H14]
   · iexists _, _; isplitr; swap; · iexact H14
     ipureintro; rfl
   iexists _, _; isplitr; swap; · iexact H15
   ipureintro; rfl

end Cert.Kernel.Hand

end
-- ==== Proof.KernelPipe.lean ====
/- The pipeline around the kernel body of `proofs.«01_k».proof.Kernel`: relational proof data (what the body may leave in an
   output's staging buffer, given what it found there, is a parameter), the body obligation from one triple of the
   body (`BodySpec`), the run (`run_of`) and the argument arrays unchanged (`frame_of_spec`). -/
module

public import proofs.«01_k».proof.Proof.Gen.Kernel.Frame
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel.Gen

variable {F : FTy → Type} [FloatOps F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x256 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x1024 .f32 := Memref.whole cc0_scratch0
abbrev scM0_1 : Memref sig .tc .vmem S1024x128 .f32 := Memref.whole cc0_scratch1
abbrev scM0_2 : Memref sig .tc .vmem S1x1024 .f32 := Memref.whole cc0_scratch2
abbrev scM0_3 : Memref sig .tc .vmem S1024x128 .f32 := Memref.whole cc0_scratch3
abbrev scM0_4 : Memref sig .tc .vmem S1024x1024 .bf16 := Memref.whole cc0_scratch4
abbrev scM0_5 : Memref sig .tc .vmem S1024x128 .f32 := Memref.whole cc0_scratch5
abbrev scM0_6 : Memref sig .tc .vmem S1x1024 .f32 := Memref.whole cc0_scratch6
abbrev scM0_7 : Memref sig .tc .vmem S1x1024 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

variable (m : (ℓ : Loc nD τ sig) → Buf (Elt F) ℓ) (ρ : Dev nD → PrngReg)

/-- What the body leaves, output by output: the loss buffer (resident, so related to what it held), and the two
    gradient blocks. -/
structure Rel (F : FTy → Type) where
  /-- The loss buffer's contents before and after the body at a point. -/
  loss : Dev nD → Fin cfg0.N → Vec F S16x1024 .f32 → Vec F S16x1024 .f32 → Prop
  /-- The row gradients' block after the body at a point. -/
  du : Dev nD → Fin cfg0.N → Vec F S1x1024x256 .bf16 → Prop
  /-- The column gradients' block after the body at a point. -/
  dv : Dev nD → Fin cfg0.N → Vec F S1x1024x256 .bf16 → Prop

/-- The relation that says nothing. -/
def Rel.trivial : Rel F := ⟨fun _ _ _ _ => True, fun _ _ _ => True, fun _ _ _ => True⟩

variable (R : Rel F)

/-- The pipeline's proof data on core `c`: the arrays as the region finds them, inputs left as found, outputs by `R`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => R.loss c t Y X
    | ⟨6, _⟩ => fun _ X => R.du c t X
    | ⟨7, _⟩ => fun _ X => R.dv c t X
  Φ _ := Pipeline.ΦA spec0 c
  q _ := fullShare
  owed _ := 0

theorem A_eq (c : Dev nD) (w : Fin cfg0.W) : (rdat m R c).A w = V m c (Pipeline.arrRef spec0 w) := by
  dsimp only [rdat]

theorem after_0 (c : Dev nD) (t : Fin cfg0.N) : (rdat m R c).after 0 t = fun Y X => X = Y := by dsimp only [rdat]
theorem after_1 (c : Dev nD) (t : Fin cfg0.N) : (rdat m R c).after 1 t = fun Y X => X = Y := by dsimp only [rdat]
theorem after_2 (c : Dev nD) (t : Fin cfg0.N) : (rdat m R c).after 2 t = fun Y X => X = Y := by dsimp only [rdat]
theorem after_3 (c : Dev nD) (t : Fin cfg0.N) : (rdat m R c).after 3 t = fun Y X => X = Y := by dsimp only [rdat]
theorem after_4 (c : Dev nD) (t : Fin cfg0.N) : (rdat m R c).after 4 t = fun Y X => X = Y := by dsimp only [rdat]
theorem after_5 (c : Dev nD) (t : Fin cfg0.N) : (rdat m R c).after 5 t = fun Y X => R.loss c t Y X := by dsimp only [rdat]; rfl
theorem after_6 (c : Dev nD) (t : Fin cfg0.N) : (rdat m R c).after 6 t = fun _ X => R.du c t X := by dsimp only [rdat]; rfl
theorem after_7 (c : Dev nD) (t : Fin cfg0.N) : (rdat m R c).after 7 t = fun _ X => R.dv c t X := by dsimp only [rdat]; rfl

theorem finds_0 (c : Dev nD) (t : Fin cfg0.N) (Y) (h : (rdat m R c).Finds 0 t Y) : Y = iblk m c 0 t := by
  obtain ⟨d, hd⟩ := Pipeline.RDat.finds_in_eq_fetched (rdat m R c) 0 rfl (fun _ _ _ => rfl) (fun t Y X h => by
    rw [after_0] at h; exact h) t Y h
  rw [hd]; unfold Pipeline.RDat.fetched Pipeline.RDat.blockOf iblk; rw [A_eq]; try rfl
theorem finds_1 (c : Dev nD) (t : Fin cfg0.N) (Y) (h : (rdat m R c).Finds 1 t Y) : Y = iblk m c 1 t := by
  obtain ⟨d, hd⟩ := Pipeline.RDat.finds_in_eq_fetched (rdat m R c) 1 rfl (fun _ _ _ => rfl) (fun t Y X h => by
    rw [after_1] at h; exact h) t Y h
  rw [hd]; unfold Pipeline.RDat.fetched Pipeline.RDat.blockOf iblk; rw [A_eq]; try rfl
theorem finds_2 (c : Dev nD) (t : Fin cfg0.N) (Y) (h : (rdat m R c).Finds 2 t Y) : Y = iblk m c 2 t := by
  obtain ⟨d, hd⟩ := Pipeline.RDat.finds_in_eq_fetched (rdat m R c) 2 rfl (fun _ _ _ => rfl) (fun t Y X h => by
    rw [after_2] at h; exact h) t Y h
  rw [hd]; unfold Pipeline.RDat.fetched Pipeline.RDat.blockOf iblk; rw [A_eq]; try rfl
theorem finds_3 (c : Dev nD) (t : Fin cfg0.N) (Y) (h : (rdat m R c).Finds 3 t Y) : Y = iblk m c 3 t := by
  obtain ⟨d, hd⟩ := Pipeline.RDat.finds_in_eq_fetched (rdat m R c) 3 rfl (fun _ _ _ => rfl) (fun t Y X h => by
    rw [after_3] at h; exact h) t Y h
  rw [hd]; unfold Pipeline.RDat.fetched Pipeline.RDat.blockOf iblk; rw [A_eq]; try rfl
theorem finds_4 (c : Dev nD) (t : Fin cfg0.N) (Y) (h : (rdat m R c).Finds 4 t Y) : Y = iblk m c 4 t := by
  obtain ⟨d, hd⟩ := Pipeline.RDat.finds_in_eq_fetched (rdat m R c) 4 rfl (fun _ _ _ => rfl) (fun t Y X h => by
    rw [after_4] at h; exact h) t Y h
  rw [hd]; unfold Pipeline.RDat.fetched Pipeline.RDat.blockOf iblk; rw [A_eq]; try rfl

/-- ONE triple of the body at point `t`: from the inputs' blocks, the loss buffer at `Y5`, the other outputs and the
    scratch at anything, the body leaves the inputs as they were and the outputs as `R` says. -/
def BodySpec : Prop := ∀ (c : Dev nD) (t : Fin cfg0.N) (Y5 : Vec F S16x1024 .f32) (K : PUnit → sProp 𝕄),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
        ∗ owns (c : Thread nD τ) (ms0_5 t) fullShare Y5 ∗ (∃ d, owns (c : Thread nD τ) (ms0_6 t) fullShare d) ∗ (∃ d, owns (c : Thread nD τ) (ms0_7 t) fullShare d)
        ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
            ∗ (∃ X, ⌜R.loss c t Y5 X⌝ ∗ owns (c : Thread nD τ) (ms0_5 t) fullShare X)
            ∗ (∃ X, ⌜R.du c t X⌝ ∗ owns (c : Thread nD τ) (ms0_6 t) fullShare X)
            ∗ (∃ X, ⌜R.dv c t X⌝ ∗ owns (c : Thread nD τ) (ms0_7 t) fullShare X)
            ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) -∗ K ⟨⟩))
      ⊢ wp frame (wpE (defs₀ (F := F)) Variants.none c none) Set.univ (bodyAt0 t) K

variable {R}

theorem defs₀_row (t : Fin cfg0.N) :
    defs₀ (F := F) .tc cfg0.body (cfg0.bodyArgs t (cfg0.slots t)) = bodyAt0 t := by
  unfold defs₀; rw [Defs.onTc_tc]

/-- The body at any point, the windows one by one. -/
theorem sound_body (h : BodySpec m R) (c : Dev nD) (t : Fin cfg0.N) (Y5 : Vec F S16x1024 .f32) (Y6 : Vec F S1x1024x256 .bf16) (Y7 : Vec F S1x1024x256 .bf16) :
    iprop(Pipeline.ΦA spec0 c ∗ (rdat m R c).owesAt () t.castSucc
        ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
        ∗ owns (c : Thread nD τ) (ms0_5 t) fullShare Y5 ∗ owns (c : Thread nD τ) (ms0_6 t) fullShare Y6 ∗ owns (c : Thread nD τ) (ms0_7 t) fullShare Y7)
      ⊢ wp frame (wpE (defs₀ (F := F)) Variants.none c none) Set.univ (bodyAt0 t) fun _ =>
        iprop(Pipeline.ΦA spec0 c ∗ (rdat m R c).owesAt () t.castSucc
          ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
          ∗ (∃ X, ⌜R.loss c t Y5 X⌝ ∗ owns (c : Thread nD τ) (ms0_5 t) fullShare X)
          ∗ (∃ X, ⌜R.du c t X⌝ ∗ owns (c : Thread nD τ) (ms0_6 t) fullShare X)
          ∗ (∃ X, ⌜R.dv c t X⌝ ∗ owns (c : Thread nD τ) (ms0_7 t) fullShare X)) := by
  rw [PhiA0_eq]
  iintro ⟨⟨⟨HS0, HS1, HS2, HS3, HS4, HS5, HS6, HS7⟩, Hg⟩, Ho, H0, H1, H2, H3, H4, H5, H6, H7⟩
  iapply (h c t Y5 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation. -/
theorem body_obligation (h : BodySpec m R) (c : Dev nD) : (rdat m R c).BodyObligation (defs₀ (F := F)) Variants.none () Set.univ := fun t Y hY => by
  rw [bigSep_W0, bigSep_W0, defs₀_row]
  have e0 := finds_0 m R c t (Y 0) (hY 0)
  have e1 := finds_1 m R c t (Y 1) (hY 1)
  have e2 := finds_2 m R c t (Y 2) (hY 2)
  have e3 := finds_3 m R c t (Y 3) (hY 3)
  have e4 := finds_4 m R c t (Y 4) (hY 4)
  refine triple_restated (sound_body m h c t (Y 5) (Y 6) (Y 7)) rfl ?_ fun _ => ?_
  · rw [← e0, ← e1, ← e2, ← e3, ← e4]; exact .rfl
  · rw [show (rdat m R c).Φ t.succ = Pipeline.ΦA spec0 c from rfl,
      show (rdat m R c).owesAt () t.succ = (rdat m R c).owesAt () t.castSucc from rfl,
      after_0, after_1, after_2, after_3, after_4, after_5, after_6, after_7, ← e0, ← e1, ← e2, ← e3, ← e4]
    iintro ⟨Hp, Ho, H0, H1, H2, H3, H4, H5, H6, H7⟩
    isplitl [Hp]; · iexact Hp
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]; · iexact H5
    isplitl [H6]; · iexact H6
    iexact H7

set_option backward.isDefEq.respectTransparency.types false in
/-- The run: every array of the pipeline at contents `R` allows, everything else as found, the counters at zero. -/
theorem run_of (h : BodySpec m R) : θ_run defs (onTc (τ := τ) (main (F := F))) (s₀ m ρ)
    (fun r => Pipeline.RDat.FramePost cfg0 (rdat m R) (V m) r ∧ r.2.sem = fun _ => 0) :=
  Pipeline.RDat.θ_run_frame (Q' := _) cfgs (0 : Fin 1) launch0 defs₀ Variants.none (rdat m R) m ρ main
    (hbody := body_obligation m h) (hshare := fun c => (rdat m R c).share_full fun _ => rfl)
    (howed := fun _ _ => rfl) (V := V m) (hmain := hmain m Variants.none) (hA := A_eq m R) (hΦ := fun _ _ => rfl)

/-- The argument arrays end unchanged. -/
theorem args_of_post {r : PUnit × MemSt nD τ sig (Elt F)} (h : Pipeline.RDat.FramePost cfg0 (rdat m R) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   (Pipeline.RDat.FramePost.arr_in h c 0 rfl).trans ((A_eq m R c 0).trans (V_main_arg1 m c)),
   ((h c).2 main_arg2 (Pipeline.mem_restRefs_of main_arg2 (by decide) (by decide))).trans (V_main_arg2 m c),
   (Pipeline.RDat.FramePost.arr_in h c 1 rfl).trans ((A_eq m R c 1).trans (V_main_arg3 m c)),
   (Pipeline.RDat.FramePost.arr_in h c 2 rfl).trans ((A_eq m R c 2).trans (V_main_arg4 m c))⟩

/-- The frame claim's post, with the counters. -/
theorem frame_of_spec (h : BodySpec m R) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post m h.1, h.2⟩) (run_of m ρ h)

end Cert.Kernel.Hand

end
-- ==== Proof.KernelFrame.lean ====
/- The frame claim of `proofs.«01_k».proof.Kernel`: the body runs whatever its buffers hold (`body_runs`), so every run
   terminates with the argument arrays unchanged and every counter at zero. -/
module

public import proofs.«01_k».proof.Proof.KernelRun
public import proofs.«01_k».proof.Proof.KernelPipe

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

variable (m : (ℓ : Loc nD τ sig) → Buf (Elt F) ℓ) (ρ : Dev nD → PrngReg)

/-- The body at every point, nothing said of the outputs. -/
theorem bodySpec_trivial : BodySpec m (Rel.trivial (F := F)) := fun c t Y5 K => by
  unfold bodyAt0
  iintro ⟨H0, H1, H2, H3, H4, H5, H6, H7, HS0, HS1, HS2, HS3, HS4, HS5, HS6, HS7, HK⟩
  iapply (body_runs c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) Set.univ K)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, ⟨%d5, H5⟩, ⟨%d6, H6⟩, ⟨%d7, H7⟩, HS0, HS1, HS2, HS3, HS4, HS5, HS6, HS7⟩
  iapply HK
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; trivial
  isplitl [H6]
  · iexists _; isplitr; swap; · iexact H6
    ipureintro; trivial
  isplitl [H7]
  · iexists _; isplitr; swap; · iexact H7
    ipureintro; trivial
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iexact HS7

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of_spec m ρ (bodySpec_trivial m)

end Cert.Kernel.Hand

end
-- ==== Proof.KernelIdealRun.lean ====
/-
  The kernel's body of `KernelIdeal`, run once: from its eight window buffers and its eight scratch buffers at any contents it
  runs to its end and hands every buffer back, the five inputs as they were. The data-dependent branch (the slow path
  for group sums out of range) is taken both ways.
-/
module

public import proofs.«01_k».proof.Proof.Gen.KernelIdeal.Frame
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 2000000 in
/-- The body runs, whatever the buffers hold; the inputs end as they were. -/
theorem body_runs (c : Dev nD) (i : grid0.Coords) (arg1 : Memref sig .tc .vmem S16x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1x1024x256 .fp8e4m3) (harg4 : arg4.IsWhole) (arg5 : Memref sig .tc .vmem S1x1024x256 .fp8e4m3) (harg5 : arg5.IsWhole) (arg6 : Memref sig .tc .vmem S16x1024 .f32) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1x1024 .f32) (harg15 : arg15.IsWhole) (arg16 : Memref sig .tc .vmem S1x1024 .f32) (harg16 : arg16.IsWhole)
    (x0 : Vec F S16x1024 .f32) (x1 : Vec F S16x1024 .f32) (x2 : Vec F S16x1024 .f32) (x3 : Vec F S1x1024x256 .fp8e4m3) (x4 : Vec F S1x1024x256 .fp8e4m3)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_inbatch_softmax i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inbatch_softmax_eq_skeleton]; unfold cc0_inbatch_softmax_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4
  sl_exec
  split
  all_goals
   sl_exec
   sl_step
   iapply Hk
   isplitl [H0]
   · iexists _; isplitr; · ipureintro; exact harg1.read_unread _
     iexact H0
   isplitl [H1]
   · iexists _; isplitr; · ipureintro; exact harg2.read_unread _
     iexact H1
   isplitl [H2]
   · iexists _; isplitr; · ipureintro; exact harg3.read_unread _
     iexact H2
   isplitl [H3]
   · iexists _; isplitr; · ipureintro; exact harg4.read_unread _
     iexact H3
   isplitl [H4]
   · iexists _; isplitr; · ipureintro; exact harg5.read_unread _
     iexact H4
   isplitl [H5]
   · iexists _, _; isplitr; swap; · iexact H5
     ipureintro; rfl
   isplitl [H6]
   · iexists _, _; isplitr; swap; · iexact H6
     ipureintro; rfl
   isplitl [H7]
   · iexists _, _; isplitr; swap; · iexact H7
     ipureintro; rfl
   isplitl [H8]
   · iexists _, _; isplitr; swap; · iexact H8
     ipureintro; rfl
   isplitl [H9]
   · iexists _, _; isplitr; swap; · iexact H9
     ipureintro; rfl
   isplitl [H10]
   · iexists _, _; isplitr; swap; · iexact H10
     ipureintro; rfl
   isplitl [H11]
   · iexists _, _; isplitr; swap; · iexact H11
     ipureintro; rfl
   isplitl [H12]
   · iexists _, _; isplitr; swap; · iexact H12
     ipureintro; rfl
   isplitl [H13]
   · iexists _, _; isplitr; swap; · iexact H13
     ipureintro; rfl
   isplitl [H14]
   · iexists _, _; isplitr; swap; · iexact H14
     ipureintro; rfl
   iexists _, _; isplitr; swap; · iexact H15
   ipureintro; rfl

end Cert.KernelIdeal.Hand

end
-- ==== Proof.KernelIdealPipe.lean ====
/- The pipeline around the kernel body of `proofs.«01_k».proof.KernelIdeal`: relational proof data (what the body may leave in an
   output's staging buffer, given what it found there, is a parameter), the body obligation from one triple of the
   body (`BodySpec`), the run (`run_of`) and the argument arrays unchanged (`frame_of_spec`). -/
module

public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal.Gen

variable {F : FTy → Type} [FloatOps F] [Named F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x256 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x1024 .f32 := Memref.whole cc0_scratch0
abbrev scM0_1 : Memref sig .tc .vmem S1024x128 .f32 := Memref.whole cc0_scratch1
abbrev scM0_2 : Memref sig .tc .vmem S1x1024 .f32 := Memref.whole cc0_scratch2
abbrev scM0_3 : Memref sig .tc .vmem S1024x128 .f32 := Memref.whole cc0_scratch3
abbrev scM0_4 : Memref sig .tc .vmem S1024x1024 .bf16 := Memref.whole cc0_scratch4
abbrev scM0_5 : Memref sig .tc .vmem S1024x128 .f32 := Memref.whole cc0_scratch5
abbrev scM0_6 : Memref sig .tc .vmem S1x1024 .f32 := Memref.whole cc0_scratch6
abbrev scM0_7 : Memref sig .tc .vmem S1x1024 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

variable (m : (ℓ : Loc nD τ sig) → Buf (Elt F) ℓ) (ρ : Dev nD → PrngReg)

/-- What the body leaves, output by output: the loss buffer (resident, so related to what it held), and the two
    gradient blocks. -/
structure Rel (F : FTy → Type) where
  /-- The loss buffer's contents before and after the body at a point. -/
  loss : Dev nD → Fin cfg0.N → Vec F S16x1024 .f32 → Vec F S16x1024 .f32 → Prop
  /-- The row gradients' block after the body at a point. -/
  du : Dev nD → Fin cfg0.N → Vec F S1x1024x256 .bf16 → Prop
  /-- The column gradients' block after the body at a point. -/
  dv : Dev nD → Fin cfg0.N → Vec F S1x1024x256 .bf16 → Prop

/-- The relation that says nothing. -/
def Rel.trivial : Rel F := ⟨fun _ _ _ _ => True, fun _ _ _ => True, fun _ _ _ => True⟩

variable (R : Rel F)

/-- The pipeline's proof data on core `c`: the arrays as the region finds them, inputs left as found, outputs by `R`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => R.loss c t Y X
    | ⟨6, _⟩ => fun _ X => R.du c t X
    | ⟨7, _⟩ => fun _ X => R.dv c t X
  Φ _ := Pipeline.ΦA spec0 c
  q _ := fullShare
  owed _ := 0

theorem A_eq (c : Dev nD) (w : Fin cfg0.W) : (rdat m R c).A w = V m c (Pipeline.arrRef spec0 w) := by
  dsimp only [rdat]

theorem after_0 (c : Dev nD) (t : Fin cfg0.N) : (rdat m R c).after 0 t = fun Y X => X = Y := by dsimp only [rdat]
theorem after_1 (c : Dev nD) (t : Fin cfg0.N) : (rdat m R c).after 1 t = fun Y X => X = Y := by dsimp only [rdat]
theorem after_2 (c : Dev nD) (t : Fin cfg0.N) : (rdat m R c).after 2 t = fun Y X => X = Y := by dsimp only [rdat]
theorem after_3 (c : Dev nD) (t : Fin cfg0.N) : (rdat m R c).after 3 t = fun Y X => X = Y := by dsimp only [rdat]
theorem after_4 (c : Dev nD) (t : Fin cfg0.N) : (rdat m R c).after 4 t = fun Y X => X = Y := by dsimp only [rdat]
theorem after_5 (c : Dev nD) (t : Fin cfg0.N) : (rdat m R c).after 5 t = fun Y X => R.loss c t Y X := by dsimp only [rdat]; rfl
theorem after_6 (c : Dev nD) (t : Fin cfg0.N) : (rdat m R c).after 6 t = fun _ X => R.du c t X := by dsimp only [rdat]; rfl
theorem after_7 (c : Dev nD) (t : Fin cfg0.N) : (rdat m R c).after 7 t = fun _ X => R.dv c t X := by dsimp only [rdat]; rfl

theorem finds_0 (c : Dev nD) (t : Fin cfg0.N) (Y) (h : (rdat m R c).Finds 0 t Y) : Y = iblk m c 0 t := by
  obtain ⟨d, hd⟩ := Pipeline.RDat.finds_in_eq_fetched (rdat m R c) 0 rfl (fun _ _ _ => rfl) (fun t Y X h => by
    rw [after_0] at h; exact h) t Y h
  rw [hd]; unfold Pipeline.RDat.fetched Pipeline.RDat.blockOf iblk; rw [A_eq]; try rfl
theorem finds_1 (c : Dev nD) (t : Fin cfg0.N) (Y) (h : (rdat m R c).Finds 1 t Y) : Y = iblk m c 1 t := by
  obtain ⟨d, hd⟩ := Pipeline.RDat.finds_in_eq_fetched (rdat m R c) 1 rfl (fun _ _ _ => rfl) (fun t Y X h => by
    rw [after_1] at h; exact h) t Y h
  rw [hd]; unfold Pipeline.RDat.fetched Pipeline.RDat.blockOf iblk; rw [A_eq]; try rfl
theorem finds_2 (c : Dev nD) (t : Fin cfg0.N) (Y) (h : (rdat m R c).Finds 2 t Y) : Y = iblk m c 2 t := by
  obtain ⟨d, hd⟩ := Pipeline.RDat.finds_in_eq_fetched (rdat m R c) 2 rfl (fun _ _ _ => rfl) (fun t Y X h => by
    rw [after_2] at h; exact h) t Y h
  rw [hd]; unfold Pipeline.RDat.fetched Pipeline.RDat.blockOf iblk; rw [A_eq]; try rfl
theorem finds_3 (c : Dev nD) (t : Fin cfg0.N) (Y) (h : (rdat m R c).Finds 3 t Y) : Y = iblk m c 3 t := by
  obtain ⟨d, hd⟩ := Pipeline.RDat.finds_in_eq_fetched (rdat m R c) 3 rfl (fun _ _ _ => rfl) (fun t Y X h => by
    rw [after_3] at h; exact h) t Y h
  rw [hd]; unfold Pipeline.RDat.fetched Pipeline.RDat.blockOf iblk; rw [A_eq]; try rfl
theorem finds_4 (c : Dev nD) (t : Fin cfg0.N) (Y) (h : (rdat m R c).Finds 4 t Y) : Y = iblk m c 4 t := by
  obtain ⟨d, hd⟩ := Pipeline.RDat.finds_in_eq_fetched (rdat m R c) 4 rfl (fun _ _ _ => rfl) (fun t Y X h => by
    rw [after_4] at h; exact h) t Y h
  rw [hd]; unfold Pipeline.RDat.fetched Pipeline.RDat.blockOf iblk; rw [A_eq]; try rfl

/-- ONE triple of the body at point `t`: from the inputs' blocks, the loss buffer at `Y5`, the other outputs and the
    scratch at anything, the body leaves the inputs as they were and the outputs as `R` says. -/
def BodySpec : Prop := ∀ (c : Dev nD) (t : Fin cfg0.N) (Y5 : Vec F S16x1024 .f32) (K : PUnit → sProp 𝕄),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
        ∗ owns (c : Thread nD τ) (ms0_5 t) fullShare Y5 ∗ (∃ d, owns (c : Thread nD τ) (ms0_6 t) fullShare d) ∗ (∃ d, owns (c : Thread nD τ) (ms0_7 t) fullShare d)
        ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
            ∗ (∃ X, ⌜R.loss c t Y5 X⌝ ∗ owns (c : Thread nD τ) (ms0_5 t) fullShare X)
            ∗ (∃ X, ⌜R.du c t X⌝ ∗ owns (c : Thread nD τ) (ms0_6 t) fullShare X)
            ∗ (∃ X, ⌜R.dv c t X⌝ ∗ owns (c : Thread nD τ) (ms0_7 t) fullShare X)
            ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) -∗ K ⟨⟩))
      ⊢ wp frame (wpE (defs₀ (F := F)) Variants.none c none) Set.univ (bodyAt0 t) K

variable {R}

theorem defs₀_row (t : Fin cfg0.N) :
    defs₀ (F := F) .tc cfg0.body (cfg0.bodyArgs t (cfg0.slots t)) = bodyAt0 t := by
  unfold defs₀; rw [Defs.onTc_tc]

/-- The body at any point, the windows one by one. -/
theorem sound_body (h : BodySpec m R) (c : Dev nD) (t : Fin cfg0.N) (Y5 : Vec F S16x1024 .f32) (Y6 : Vec F S1x1024x256 .bf16) (Y7 : Vec F S1x1024x256 .bf16) :
    iprop(Pipeline.ΦA spec0 c ∗ (rdat m R c).owesAt () t.castSucc
        ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
        ∗ owns (c : Thread nD τ) (ms0_5 t) fullShare Y5 ∗ owns (c : Thread nD τ) (ms0_6 t) fullShare Y6 ∗ owns (c : Thread nD τ) (ms0_7 t) fullShare Y7)
      ⊢ wp frame (wpE (defs₀ (F := F)) Variants.none c none) Set.univ (bodyAt0 t) fun _ =>
        iprop(Pipeline.ΦA spec0 c ∗ (rdat m R c).owesAt () t.castSucc
          ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
          ∗ (∃ X, ⌜R.loss c t Y5 X⌝ ∗ owns (c : Thread nD τ) (ms0_5 t) fullShare X)
          ∗ (∃ X, ⌜R.du c t X⌝ ∗ owns (c : Thread nD τ) (ms0_6 t) fullShare X)
          ∗ (∃ X, ⌜R.dv c t X⌝ ∗ owns (c : Thread nD τ) (ms0_7 t) fullShare X)) := by
  rw [PhiA0_eq]
  iintro ⟨⟨⟨HS0, HS1, HS2, HS3, HS4, HS5, HS6, HS7⟩, Hg⟩, Ho, H0, H1, H2, H3, H4, H5, H6, H7⟩
  iapply (h c t Y5 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation. -/
theorem body_obligation (h : BodySpec m R) (c : Dev nD) : (rdat m R c).BodyObligation (defs₀ (F := F)) Variants.none () Set.univ := fun t Y hY => by
  rw [bigSep_W0, bigSep_W0, defs₀_row]
  have e0 := finds_0 m R c t (Y 0) (hY 0)
  have e1 := finds_1 m R c t (Y 1) (hY 1)
  have e2 := finds_2 m R c t (Y 2) (hY 2)
  have e3 := finds_3 m R c t (Y 3) (hY 3)
  have e4 := finds_4 m R c t (Y 4) (hY 4)
  refine triple_restated (sound_body m h c t (Y 5) (Y 6) (Y 7)) rfl ?_ fun _ => ?_
  · rw [← e0, ← e1, ← e2, ← e3, ← e4]; exact .rfl
  · rw [show (rdat m R c).Φ t.succ = Pipeline.ΦA spec0 c from rfl,
      show (rdat m R c).owesAt () t.succ = (rdat m R c).owesAt () t.castSucc from rfl,
      after_0, after_1, after_2, after_3, after_4, after_5, after_6, after_7, ← e0, ← e1, ← e2, ← e3, ← e4]
    iintro ⟨Hp, Ho, H0, H1, H2, H3, H4, H5, H6, H7⟩
    isplitl [Hp]; · iexact Hp
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]; · iexact H5
    isplitl [H6]; · iexact H6
    iexact H7

set_option backward.isDefEq.respectTransparency.types false in
/-- The run: every array of the pipeline at contents `R` allows, everything else as found, the counters at zero. -/
theorem run_of (h : BodySpec m R) : θ_run defs (onTc (τ := τ) (main (F := F))) (s₀ m ρ)
    (fun r => Pipeline.RDat.FramePost cfg0 (rdat m R) (V m) r ∧ r.2.sem = fun _ => 0) :=
  Pipeline.RDat.θ_run_frame (Q' := _) cfgs (0 : Fin 1) launch0 defs₀ Variants.none (rdat m R) m ρ main
    (hbody := body_obligation m h) (hshare := fun c => (rdat m R c).share_full fun _ => rfl)
    (howed := fun _ _ => rfl) (V := V m) (hmain := hmain m Variants.none) (hA := A_eq m R) (hΦ := fun _ _ => rfl)

/-- The argument arrays end unchanged. -/
theorem args_of_post {r : PUnit × MemSt nD τ sig (Elt F)} (h : Pipeline.RDat.FramePost cfg0 (rdat m R) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   (Pipeline.RDat.FramePost.arr_in h c 0 rfl).trans ((A_eq m R c 0).trans (V_main_arg1 m c)),
   ((h c).2 main_arg2 (Pipeline.mem_restRefs_of main_arg2 (by decide) (by decide))).trans (V_main_arg2 m c),
   (Pipeline.RDat.FramePost.arr_in h c 1 rfl).trans ((A_eq m R c 1).trans (V_main_arg3 m c)),
   (Pipeline.RDat.FramePost.arr_in h c 2 rfl).trans ((A_eq m R c 2).trans (V_main_arg4 m c))⟩

/-- The frame claim's post, with the counters. -/
theorem frame_of_spec (h : BodySpec m R) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post m h.1, h.2⟩) (run_of m ρ h)

end Cert.KernelIdeal.Hand

end
-- ==== Proof.KernelIdealFrame.lean ====
/- The frame claim of `proofs.«01_k».proof.KernelIdeal`: the body runs whatever its buffers hold (`body_runs`), so every run
   terminates with the argument arrays unchanged and every counter at zero. -/
module

public import proofs.«01_k».proof.Proof.KernelIdealRun
public import proofs.«01_k».proof.Proof.KernelIdealPipe

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

variable (m : (ℓ : Loc nD τ sig) → Buf (Elt F) ℓ) (ρ : Dev nD → PrngReg)

/-- The body at every point, nothing said of the outputs. -/
theorem bodySpec_trivial : BodySpec m (Rel.trivial (F := F)) := fun c t Y5 K => by
  unfold bodyAt0
  iintro ⟨H0, H1, H2, H3, H4, H5, H6, H7, HS0, HS1, HS2, HS3, HS4, HS5, HS6, HS7, HK⟩
  iapply (body_runs c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) Set.univ K)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, ⟨%d5, H5⟩, ⟨%d6, H6⟩, ⟨%d7, H7⟩, HS0, HS1, HS2, HS3, HS4, HS5, HS6, HS7⟩
  iapply HK
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; trivial
  isplitl [H6]
  · iexists _; isplitr; swap; · iexact H6
    ipureintro; trivial
  isplitl [H7]
  · iexists _; isplitr; swap; · iexact H7
    ipureintro; trivial
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iexact HS7

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of_spec m ρ (bodySpec_trivial m)

end Cert.KernelIdeal.Hand

end
-- ==== Proof.KernelIdealSlowPays.lean ====
/- What the fallback path's payloads hold at an index, over the extended reals. -/
module

public import proofs.«01_k».proof.Proof.Gen.KernelIdeal.Skeleton
public import Idealize.ShloMosaic.Lib.Pointwise
public import Idealize.ShloMosaic.Lib.ValueIdx

@[expose] public section

set_option maxRecDepth 16384

noncomputable section

namespace Cert.KernelIdeal.Hand

open Idealize.ShloMosaic Cert.KernelIdeal.Gen

/-- The lane a column falls in. -/
abbrev lane (c : Fin 1024) : Fin 128 := ⟨c.val % 128, Nat.mod_lt _ (by decide)⟩

theorem ofBits_neg_inf : Ideal.ofBits .f32 4286578688#32 = (⊥ : EReal) := by
  simp [Ideal.ofBits, Ideal.ieee]

theorem named_log2e : (Named.named KernelIdeal.κ "log2e" 1069066811#32 : Ideal .f32) = (((Real.log 2)⁻¹ : ℝ) : EReal) := rfl
theorem named_inv_tau_log2e : (Named.named KernelIdeal.κ "inv_tau_log2e" 0x41E6D4CA#32 : Ideal .f32) = ((20 * (Real.log 2)⁻¹ : ℝ) : EReal) := rfl
theorem named_ln2 : (Named.named KernelIdeal.κ "ln2" 1060205080#32 : Ideal .f32) = ((Real.log 2 : ℝ) : EReal) := rfl

/-- Eight copies of a block of 128 lanes side by side, at a column: the block at the column's lane. -/
theorem ladder {α : Type} (f : Fin 128 → α) (x : Fin 1024) :
    (if h : x.val < 128 then f ⟨x.val, h⟩
     else if h : x.val - 128 < 128 then f ⟨x.val - 128, h⟩
     else if h : x.val - 128 - 128 < 128 then f ⟨x.val - 128 - 128, h⟩
     else if h : x.val - 128 - 128 - 128 < 128 then f ⟨x.val - 128 - 128 - 128, h⟩
     else if h : x.val - 128 - 128 - 128 - 128 < 128 then f ⟨x.val - 128 - 128 - 128 - 128, h⟩
     else if h : x.val - 128 - 128 - 128 - 128 - 128 < 128 then f ⟨x.val - 128 - 128 - 128 - 128 - 128, h⟩
     else if h : x.val - 128 - 128 - 128 - 128 - 128 - 128 < 128 then f ⟨x.val - 128 - 128 - 128 - 128 - 128 - 128, h⟩
     else f ⟨x.val - 128 - 128 - 128 - 128 - 128 - 128 - 128, by omega⟩) = f (lane x) := by
  have hx := x.isLt
  split_ifs <;> exact congrArg f (Fin.ext (by show _ = x.val % 128; simp only; omega))

/-- A sum against a column of the identity keeps the diagonal entry. -/
theorem sum_eye (v : Fin 128 → EReal) (b : Fin 128) : (∑ x, Scalar.select (if x = b then 1#1 else 0#1) (v x) 0) = v b := by
  rw [Finset.sum_eq_single b]
  · simp [Scalar.select]
  · intro x _ hx
    simp [Scalar.select, hx]
  · intro h
    exact absurd (Finset.mem_univ _) h

theorem pay88_at (v9 : FVec Ideal S1x1024 .f32) (v609 : Vec Ideal S1x128x256 .fp8e4m3) (v611 : Vec Ideal S1x1024x256 .fp8e4m3)
    (v615 : Vec Ideal S128x128 .f32) (a : Fin 128) (c : Fin 1024) :
    k0_pay88 v9 v609 v611 v615 (ix2 a c) = (∑ k : Fin 256, v609 (ix3 0 a k) * v611 (ix3 0 c k)) * (v615 (ix2 a (lane c)) * v9 (ix2 0 c)) := by
  pointwise [k0_pay88]
  have hl : ∀ x, _ = _ := ladder fun i => v615 (ix2 a i)
  beta_reduce at hl
  rw [hl]

theorem pay90_at (v7 v9 : FVec Ideal S1x1024 .f32) (v609 : Vec Ideal S1x128x256 .fp8e4m3) (v611 : Vec Ideal S1x1024x256 .fp8e4m3)
    (v615 : Vec Ideal S128x128 .f32) (a b : Fin 128)  :
    k0_pay90 v7 v9 v609 v611 v615 (ix2 a b) = Finset.univ.sup fun c : Fin 1024 => k0_pay88 v9 v609 v611 v615 (ix2 a c) - v7 (ix2 0 c) := by
  pointwise [k0_pay90]
  rw [ofBits_neg_inf]
  rfl

theorem pay91_at (v9 acc : FVec Ideal S1x1024 .f32) (v609 : Vec Ideal S1x128x256 .fp8e4m3) (v611 : Vec Ideal S1x1024x256 .fp8e4m3)
    (v615 : Vec Ideal S128x128 .f32) (c : Fin 1024)  :
    k0_pay91 v9 acc v609 v611 v615 (ix2 0 c) = acc (ix2 0 c) ⊔ Finset.univ.sup fun a : Fin 128 => k0_pay88 v9 v609 v611 v615 (ix2 a c) := by
  pointwise [k0_pay91]
  rw [ofBits_neg_inf]
  rfl

theorem pay93_at (v7 : FVec Ideal S1x1024 .f32) (v609 : Vec Ideal S128x1024 .f32) (v611 : Vec Ideal S128x128 .f32) (a b : Fin 128) :
    k0_pay93 v7 v609 v611 (ix2 a b) = v611 (ix2 a b) + Ideal.log (∑ c : Fin 1024, Ideal.exp2 (v609 (ix2 a c) - v7 (ix2 0 c) - v611 (ix2 a (lane c)))) * (((Real.log 2)⁻¹ : ℝ) : EReal) := by
  pointwise [k0_pay93]
  have hl : ∀ x, _ = _ := ladder fun i => v611 (ix2 a i)
  beta_reduce at hl
  simp only [hl]
  rfl

theorem pay1_at (v12 : IVec S128x128 1) (v611 v616 : Vec Ideal S128x128 .f32) (v626 v630 : Vec Ideal S1x128 .f32)
   (h12 : ∀ a b, v12 (ix2 a b) = if a = b then 1#1 else 0#1) (b : Fin 128) :
   k0_pay1 v12 v611 v616 v626 v630 (ix2 0 b) = ((Real.log 2 : ℝ) : EReal) * ((v611 (ix2 b b) - (v616 (ix2 b b) - v626 (ix2 0 b))) + (v630 (ix2 0 b) - v616 (ix2 b b))) := by
  pointwise [k0_pay1]
  simp only [h12]
  rw [sum_eye fun x => v611 (ix2 x b), sum_eye fun x => v616 (ix2 x b)]
  rfl

theorem pay94_at (v591 acc : FVec Ideal S1x1024 .f32) (v609 : Vec Ideal S128x1024 .f32) (c : Fin 1024) :
    k0_pay94 v591 acc v609 (ix2 0 c) = acc (ix2 0 c) + ∑ a : Fin 128, Ideal.exp2 (v609 (ix2 a c) - v591 (ix2 0 c)) := by
  pointwise [k0_pay94]
  rfl

theorem pay95_at (v591 v594 : FVec Ideal S1x1024 .f32) (c : Fin 1024) :
    k0_pay95 v591 v594 (ix2 0 c) = v591 (ix2 0 c) + Ideal.log (v594 (ix2 0 c)) * (((Real.log 2)⁻¹ : ℝ) : EReal) := by
  pointwise [k0_pay95]
  rfl

theorem pay2_at (v7 v598 : FVec Ideal S1x1024 .f32) (v609 : Vec Ideal S128x1024 .f32) (v611 : Vec Ideal S128x128 .f32) (a : Fin 128) (c : Fin 1024) :
    k0_pay2 v7 v598 v609 v611 (ix2 a c) = Ideal.exp2 (v609 (ix2 a c) - v7 (ix2 0 c) - v611 (ix2 a (lane c))) + Ideal.exp2 (v609 (ix2 a c) - v598 (ix2 0 c)) := by
  pointwise [k0_pay2]
  have hl : ∀ x, _ = _ := ladder fun i => v611 (ix2 a i)
  beta_reduce at hl
  rw [hl]
  rfl

theorem pay89_at (v9 : FVec Ideal S1x1024 .f32) (v609 : Vec Ideal S1x128x256 .fp8e4m3) (v611 : Vec Ideal S1x1024x256 .fp8e4m3)
    (v615 : Vec Ideal S128x128 .f32) (a : Fin 128) (c : Fin 1024) : k0_pay89 v9 v609 v611 v615 (ix2 a c) = k0_pay88 v9 v609 v611 v615 (ix2 a c) := by
  pointwise [k0_pay89]

theorem pay96_at (v591 v594 : FVec Ideal S1x1024 .f32) (c : Fin 1024) :
    k0_pay96 v591 v594 (ix2 0 c) = k0_pay95 v591 v594 (ix2 0 c) := by
  pointwise [k0_pay96]

theorem pay87_at (c : Fin 1024) : k0_pay87 (F := Ideal) (ix2 0 c) = (⊥ : EReal) := by
  pointwise [k0_pay87]
  exact ofBits_neg_inf
theorem pay92_at (c : Fin 1024) : k0_pay92 (F := Ideal) (ix2 0 c) = (0 : EReal) := by
  pointwise [k0_pay92]
theorem pay97_at (a b : Fin 128) : k0_pay97 (F := Ideal) (ix2 a b) = (1 : EReal) := by
  pointwise [k0_pay97]
theorem pay98_at (c : Fin 1024) : k0_pay98 (F := Ideal) (ix2 0 c) = (0 : EReal) := by
  pointwise [k0_pay98]

end Cert.KernelIdeal.Hand

end
-- ==== Proof.Chunks.lean ====
/- Sums and maxima over 1024 rows, taken eight blocks of 128 at a time. -/
module

public import Idealize.ShloMosaic.Lib.Pointwise

@[expose] public section

namespace Cert.Chunks

/-- The rows before block `k`. -/
def upTo (k : ℕ) : Finset (Fin 1024) := Finset.univ.filter fun r => r.val < 128 * k

theorem mem_upTo {k : ℕ} {r : Fin 1024} : r ∈ upTo k ↔ r.val < 128 * k := by simp [upTo]

/-- Row `a` of block `k`. -/
def row (k : ℕ) (hk : k < 8) : Fin 128 ↪ Fin 1024 where
  toFun a := ⟨128 * k + a.val, by omega⟩
  inj' a b h := by
    have h1 : 128 * k + a.val = 128 * k + b.val := congrArg Fin.val h
    exact Fin.ext (by omega)

theorem upTo_zero : upTo 0 = ∅ := by ext r; simp [upTo]
theorem upTo_eight : upTo 8 = Finset.univ := by
  ext r
  have := r.isLt
  simp only [mem_upTo, Finset.mem_univ, iff_true]
  omega

theorem disj (k : ℕ) (hk : k < 8) : Disjoint (upTo k) (Finset.univ.map (row k hk)) := by
  rw [Finset.disjoint_left]
  intro r hr hr'
  obtain ⟨a, -, ha⟩ := Finset.mem_map.mp hr'
  have h1 := mem_upTo.mp hr
  have h2 : 128 * k + a.val = r.val := congrArg Fin.val ha
  omega

theorem upTo_succ (k : ℕ) (hk : k < 8) : upTo (k + 1) = (upTo k).disjUnion (Finset.univ.map (row k hk)) (disj k hk) := by
  ext r
  rw [Finset.mem_disjUnion, mem_upTo, mem_upTo, Finset.mem_map]
  constructor
  · intro h
    by_cases hr : r.val < 128 * k
    · exact .inl hr
    · exact .inr ⟨⟨r.val - 128 * k, by omega⟩, Finset.mem_univ _, Fin.ext (by show 128 * k + (r.val - 128 * k) = r.val; omega)⟩
  · rintro (h | ⟨a, -, rfl⟩)
    · omega
    · show 128 * k + a.val < _
      have := a.isLt
      omega

theorem sum_succ (g : Fin 1024 → EReal) (k : ℕ) (hk : k < 8) : ∑ r ∈ upTo (k + 1), g r = ∑ r ∈ upTo k, g r + ∑ a, g (row k hk a) := by
  rw [upTo_succ k hk, Finset.sum_disjUnion, Finset.sum_map]

theorem sup_succ (g : Fin 1024 → EReal) (k : ℕ) (hk : k < 8) :
    (upTo (k + 1)).sup g = (upTo k).sup g ⊔ Finset.univ.sup fun a => g (row k hk a) := by
  rw [upTo_succ k hk, Finset.disjUnion_eq_union, Finset.sup_union, Finset.sup_map]
  rfl

/-- A row is a row of its block. -/
theorem row_eq (r : Fin 1024) : r = row (r.val / 128) (by have := r.isLt; omega) ⟨r.val % 128, Nat.mod_lt _ (by decide)⟩ :=
  Fin.ext (by show r.val = 128 * (r.val / 128) + r.val % 128; omega)

end Cert.Chunks

end
-- ==== Proof.RowReads.lean ====
/- Loads and stores of blocks of rows of a two- or three-axis buffer, read at an index written by its coordinates. -/
module

public import Idealize.ShloMosaic.Lib.VecWindow
public import Idealize.ShloMosaic.Lib.WritesUnit
public import Idealize.ShloMosaic.Lib.Pointwise
public import proofs.«01_k».proof.Proof.Chunks

@[expose] public section

namespace Cert.RowReads

open Idealize.ShloMosaic

variable {sig : RefSig} {κ : Kind} {sp : Space} {e : EltTy} {Val : EltTy → Type}

/-- A load of a block of a two-axis buffer, at an index. -/
theorem readAt2 {M N m n : Nat} (v : View sig κ sp ⟨2, ![M, N]⟩ e) (f : v.ty.Contents Val) {off : Fin 2 → ℕ} (o p : ℕ)
    (inb : ∀ a, off a + (![m, n] : Fin 2 → ℕ) a ≤ (![M, N] : Fin 2 → ℕ) a) (h : off = ![o, p]) (a : Fin m) (b : Fin n)
    (r : Fin M) (c : Fin N) (hr : r.val = o + a.val) (hc : c.val = p + b.val) :
    v.readAt Val (Rect.unit (s := ⟨2, ![M, N]⟩) off ![m, n] inb).toLoadRect f (ix2 a b) = v.read Val f (ix2 r c) := by
  subst h
  refine congrArg (v.read Val f) (funext fun x => Fin.ext ?_)
  match x with
  | ⟨0, _⟩ => show o + 1 * a.val = r.val; omega
  | ⟨1, _⟩ => show p + 1 * b.val = c.val; omega

/-- A load of a block of a three-axis buffer, at an index. -/
theorem readAt3 {L M N l m n : Nat} (v : View sig κ sp ⟨3, ![L, M, N]⟩ e) (f : v.ty.Contents Val) {off : Fin 3 → ℕ} (q o p : ℕ)
    (inb : ∀ a, off a + (![l, m, n] : Fin 3 → ℕ) a ≤ (![L, M, N] : Fin 3 → ℕ) a) (h : off = ![q, o, p]) (z : Fin l) (a : Fin m) (b : Fin n)
    (y : Fin L) (r : Fin M) (c : Fin N) (hy : y.val = q + z.val) (hr : r.val = o + a.val) (hc : c.val = p + b.val) :
    v.readAt Val (Rect.unit (s := ⟨3, ![L, M, N]⟩) off ![l, m, n] inb).toLoadRect f (ix3 z a b) = v.read Val f (ix3 y r c) := by
  subst h
  refine congrArg (v.read Val f) (funext fun x => Fin.ext ?_)
  match x with
  | ⟨0, _⟩ => show q + 1 * z.val = y.val; omega
  | ⟨1, _⟩ => show o + 1 * a.val = r.val; omega
  | ⟨2, _⟩ => show p + 1 * b.val = c.val; omega

/-- What a two-axis buffer reads at an index inside the block stored last. -/
theorem read_writes2_in {M N m n : Nat} (v : View sig κ sp ⟨2, ![M, N]⟩ e) (f : v.ty.Contents Val) {off : Fin 2 → ℕ} (o p : ℕ)
    (inb : ∀ a, off a + (![m, n] : Fin 2 → ℕ) a ≤ (![M, N] : Fin 2 → ℕ) a) (h : off = ![o, p])
    (w : (⟨2, ![m, n]⟩ : Shape).Idx → Val e) (L : List (View.Piece Val ⟨2, ![M, N]⟩ e)) (r : Fin M) (c : Fin N) (a : Fin m) (b : Fin n)
    (hr : r.val = o + a.val) (hc : c.val = p + b.val) :
    v.read Val (v.writes Val f (⟨Rect.unit (s := ⟨2, ![M, N]⟩) off ![m, n] inb, w⟩ :: L)) (ix2 r c) = w (ix2 a b) := by
  subst h
  refine View.read_writes_cons_unit_of_mem v f inb w L _ (ix2 a b) rfl fun x => ?_
  match x with
  | ⟨0, _⟩ => exact hr
  | ⟨1, _⟩ => exact hc

/-- What a two-axis buffer reads at an index outside the rows stored last. -/
theorem read_writes2_out {M N m n : Nat} (v : View sig κ sp ⟨2, ![M, N]⟩ e) (f : v.ty.Contents Val) {off : Fin 2 → ℕ} (o p : ℕ)
    (inb : ∀ a, off a + (![m, n] : Fin 2 → ℕ) a ≤ (![M, N] : Fin 2 → ℕ) a) (h : off = ![o, p])
    (w : (⟨2, ![m, n]⟩ : Shape).Idx → Val e) (L : List (View.Piece Val ⟨2, ![M, N]⟩ e)) (r : Fin M) (c : Fin N)
    (hr : r.val < o ∨ o + m ≤ r.val) :
    v.read Val (v.writes Val f (⟨Rect.unit (s := ⟨2, ![M, N]⟩) off ![m, n] inb, w⟩ :: L)) (ix2 r c) = v.read Val (v.writes Val f L) (ix2 r c) := by
  subst h
  rw [View.read_writes_cons_unit v f inb w L _ rfl]
  refine dif_neg fun hh => ?_
  have := hh 0
  have h0 : o ≤ r.val ∧ r.val < o + m := this
  omega

/-- The same, outside the columns stored last. -/
theorem read_writes2_out' {M N m n : Nat} (v : View sig κ sp ⟨2, ![M, N]⟩ e) (f : v.ty.Contents Val) {off : Fin 2 → ℕ} (o p : ℕ)
    (inb : ∀ a, off a + (![m, n] : Fin 2 → ℕ) a ≤ (![M, N] : Fin 2 → ℕ) a) (h : off = ![o, p])
    (w : (⟨2, ![m, n]⟩ : Shape).Idx → Val e) (L : List (View.Piece Val ⟨2, ![M, N]⟩ e)) (r : Fin M) (c : Fin N)
    (hc : c.val < p ∨ p + n ≤ c.val) :
    v.read Val (v.writes Val f (⟨Rect.unit (s := ⟨2, ![M, N]⟩) off ![m, n] inb, w⟩ :: L)) (ix2 r c) = v.read Val (v.writes Val f L) (ix2 r c) := by
  subst h
  rw [View.read_writes_cons_unit v f inb w L _ rfl]
  refine dif_neg fun hh => ?_
  have := hh 1
  have h0 : p ≤ c.val ∧ c.val < p + n := this
  omega

/-- A buffer whose rows before block `k` hold `G` and whose others hold `H`, block `k` stored from `G`. -/
theorem rows_step {N : Nat} (v : View sig κ sp ⟨2, ![1024, N]⟩ e) (f : v.ty.Contents Val) (k : ℕ) (hk : k < 8) {off : Fin 2 → ℕ}
    (inb : ∀ a, off a + (![128, N] : Fin 2 → ℕ) a ≤ (![1024, N] : Fin 2 → ℕ) a) (h : off = ![128 * k, 0])
    (w : (⟨2, ![128, N]⟩ : Shape).Idx → Val e) (G H : Fin 1024 → Fin N → Val e)
    (hold : ∀ r t, v.read Val f (ix2 r t) = if r.val < 128 * k then G r t else H r t)
    (hnew : ∀ a t, w (ix2 a t) = G (Chunks.row k hk a) t) (r : Fin 1024) (t : Fin N) :
    v.read Val (v.writes Val f [⟨Rect.unit (s := ⟨2, ![1024, N]⟩) off ![128, N] inb, w⟩]) (ix2 r t) = if r.val < 128 * (k + 1) then G r t else H r t := by
  by_cases h1 : r.val < 128 * k ∨ 128 * k + 128 ≤ r.val
  · rw [read_writes2_out v f _ _ inb h w [] r t h1]
    refine (hold r t).trans ?_
    rcases h1 with h1 | h1
    · rw [if_pos h1, if_pos (by omega)]
    · rw [if_neg (by omega), if_neg (by omega)]
  · have h2 : r = Chunks.row k hk ⟨r.val - 128 * k, by omega⟩ := Fin.ext (by show r.val = 128 * k + (r.val - 128 * k); omega)
    rw [read_writes2_in v f (128 * k) 0 inb h w [] r t ⟨r.val - 128 * k, by omega⟩ t (by show r.val = 128 * k + (r.val - 128 * k); omega) (by omega), hnew, ← h2, if_pos (by omega)]

/-- The same for blocks of columns of a one-row buffer. -/
theorem cols_step (v : View sig κ sp ⟨2, ![1, 1024]⟩ e) (f : v.ty.Contents Val) (k : ℕ) (hk : k < 8) {off : Fin 2 → ℕ}
    (inb : ∀ a, off a + (![1, 128] : Fin 2 → ℕ) a ≤ (![1, 1024] : Fin 2 → ℕ) a) (h : off = ![0, 128 * k])
    (w : (⟨2, ![1, 128]⟩ : Shape).Idx → Val e) (G H : Fin 1024 → Val e)
    (hold : ∀ t, v.read Val f (ix2 0 t) = if t.val < 128 * k then G t else H t)
    (hnew : ∀ b, w (ix2 0 b) = G (Chunks.row k hk b)) (t : Fin 1024) :
    v.read Val (v.writes Val f [⟨Rect.unit (s := ⟨2, ![1, 1024]⟩) off ![1, 128] inb, w⟩]) (ix2 0 t) = if t.val < 128 * (k + 1) then G t else H t := by
  by_cases h1 : t.val < 128 * k ∨ 128 * k + 128 ≤ t.val
  · rw [read_writes2_out' v f _ _ inb h w [] 0 t h1]
    refine (hold t).trans ?_
    rcases h1 with h1 | h1
    · rw [if_pos h1, if_pos (by omega)]
    · rw [if_neg (by omega), if_neg (by omega)]
  · have h2 : t = Chunks.row k hk ⟨t.val - 128 * k, by omega⟩ := Fin.ext (by show t.val = 128 * k + (t.val - 128 * k); omega)
    rw [read_writes2_in v f 0 (128 * k) inb h w [] 0 t 0 ⟨t.val - 128 * k, by omega⟩ (by rfl) (by show t.val = 128 * k + (t.val - 128 * k); omega), hnew, ← h2, if_pos (by omega)]

end Cert.RowReads

end
-- ==== Proof.KernelIdealLoops.lean ====
/- The fallback path's three loops over blocks of 128 rows, each by an invariant over what its buffers read. -/
module

public import proofs.«01_k».proof.Proof.KernelIdealSlowPays
public import proofs.«01_k».proof.Proof.RowReads
public import proofs.«01_k».proof.Proof.Chunks
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.RowReads Cert.Chunks

local notation "𝕄" => MT nD τ sig Unit (Elt Ideal) ℕ (UR sig nD τ) ℕ

variable (c : Dev nD) (E : Set ℕ) (i : grid0.Coords) (arg1 : Memref sig .tc .vmem S16x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1x1024x256 .fp8e4m3) (harg4 : arg4.IsWhole) (arg5 : Memref sig .tc .vmem S1x1024x256 .fp8e4m3) (harg5 : arg5.IsWhole) (arg6 : Memref sig .tc .vmem S16x1024 .f32) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1x1024 .f32) (harg15 : arg15.IsWhole) (arg16 : Memref sig .tc .vmem S1x1024 .f32) (harg16 : arg16.IsWhole)
  (arg0 : BitVec 32) (v7 v9 : FVec Ideal S1x1024 .f32) (v12 : IVec S128x128 1) (v387 v391 : Ideal .f32) (v392 : FVec Ideal S1x1x1024 .f32)

/-- The fallback's scaled products. -/
def S1 (X4 : BufTy.Contents (Elt Ideal) arg4.view.ty) (X5 : BufTy.Contents (Elt Ideal) arg5.view.ty) (X12 : BufTy.Contents (Elt Ideal) arg12.view.ty) (r t : Fin 1024) : EReal :=
  (∑ k : Fin 256, arg4.view.read (Elt Ideal) X4 (ix3 0 r k) * arg5.view.read (Elt Ideal) X5 (ix3 0 t k)) * (arg12.view.read (Elt Ideal) X12 (ix2 r (lane t)) * v9 (ix2 0 t))

/-- The first loop before block `k`: products and row maxima stored for the rows before it, column maxima carried. -/
def inv1 (X4 : BufTy.Contents (Elt Ideal) arg4.view.ty) (X5 : BufTy.Contents (Elt Ideal) arg5.view.ty) (X12 : BufTy.Contents (Elt Ideal) arg12.view.ty) (G9 : BufTy.Contents (Elt Ideal) arg9.view.ty) (G14 : BufTy.Contents (Elt Ideal) arg14.view.ty) (k : ℕ) (acc : FVec Ideal S1x1024 .f32) : sProp 𝕄 :=
  iprop((arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} X12)
    ∗ (∃ f, (arg9.view.loc (c : Thread nD τ) ↦[arg9.view.set]{fullShare} f) ∗ ⌜∀ r t : Fin 1024, arg9.view.read (Elt Ideal) f (ix2 r t) = if r.val < 128 * k then S1 arg4 arg5 arg12 v9 X4 X5 X12 r t else arg9.view.read (Elt Ideal) G9 (ix2 r t)⌝)
    ∗ (∃ f, (arg14.view.loc (c : Thread nD τ) ↦[arg14.view.set]{fullShare} f) ∗ ⌜∀ (r : Fin 1024) (b : Fin 128), arg14.view.read (Elt Ideal) f (ix2 r b) = if r.val < 128 * k then (Finset.univ.sup fun t : Fin 1024 => S1 arg4 arg5 arg12 v9 X4 X5 X12 r t - v7 (ix2 0 t)) else arg14.view.read (Elt Ideal) G14 (ix2 r b)⌝)
    ∗ ⌜∀ t : Fin 1024, acc (ix2 0 t) = (upTo k).sup fun r => S1 arg4 arg5 arg12 v9 X4 X5 X12 r t⌝)

theorem pay88_row (X4 : BufTy.Contents (Elt Ideal) arg4.view.ty) (X5 : BufTy.Contents (Elt Ideal) arg5.view.ty) (X12 : BufTy.Contents (Elt Ideal) arg12.view.ty) (k : ℕ) (hk : k < 8) {off2 : Fin 3 → ℕ} {off3 : Fin 2 → ℕ} (inb2 : ∀ a, off2 a + (S1x128x256.size) a ≤ (S1x1024x256.size) a) (h2 : off2 = ![0, 128 * k, 0])
    (inb3 : ∀ a, off3 a + S128x128.size a ≤ S1024x128.size a) (h3 : off3 = ![128 * k, 0]) (a : Fin 128) (t : Fin 1024) :
    k0_pay88 v9 (View.readAt (Elt Ideal) arg4.view (Rect.unit (s := S1x1024x256) off2 S1x128x256.size inb2).toLoadRect X4)
      (View.readAt (Elt Ideal) arg5.view (Rect.unit (s := S1x1024x256) ![0, 0, 0] S1x1024x256.size inb_S1x1024x256_S1x1024x256_0_0_0).toLoadRect X5)
      (View.readAt (Elt Ideal) arg12.view (Rect.unit (s := S1024x128) off3 S128x128.size inb3).toLoadRect X12) (ix2 a t) = S1 arg4 arg5 arg12 v9 X4 X5 X12 (row k hk a) t := by
  rw [pay88_at]
  refine congrArg₂ (· * ·) (Finset.sum_congr rfl fun d _ => congrArg₂ (· * ·) ?_ ?_) (congrArg (· * _) ?_)
  · exact readAt3 arg4.view X4 0 (128 * k) 0 inb2 h2 0 a d 0 (row k hk a) d rfl rfl (Nat.zero_add _).symm
  · exact readAt3 arg5.view X5 0 0 0 inb_S1x1024x256_S1x1024x256_0_0_0 rfl 0 t d 0 t d rfl (Nat.zero_add _).symm (Nat.zero_add _).symm
  · exact readAt2 arg12.view X12 (128 * k) 0 inb3 h3 a (lane t) (row k hk a) (lane t) rfl (Nat.zero_add _).symm

set_option maxHeartbeats 1000000 in
theorem step1 (X4 : BufTy.Contents (Elt Ideal) arg4.view.ty) (X5 : BufTy.Contents (Elt Ideal) arg5.view.ty) (X12 : BufTy.Contents (Elt Ideal) arg12.view.ty) (G9 : BufTy.Contents (Elt Ideal) arg9.view.ty) (G14 : BufTy.Contents (Elt Ideal) arg14.view.ty) (k : Fin k0_t1_loop.trips) (acc : FVec Ideal S1x1024 .f32) :
    inv1 c arg4 arg5 arg9 arg12 arg14 v7 v9 X4 X5 X12 G9 G14 k acc
      ⊢ wp frame (wpE (defs₀ (F := Ideal)) Variants.none (c : Thread nD τ) none) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 k acc)
          (inv1 c arg4 arg5 arg9 arg12 arg14 v7 v9 X4 X5 X12 G9 G14 (k.val + 1)) := by
  have hk : k.val < 8 := Nat.lt_of_lt_of_le k.isLt k0_t1_abs.2.1
  unfold inv1 k0_t1_body
  iintro ⟨H4, H5, H12, ⟨%f9, H9, %h9⟩, ⟨%f14, H14, %h14⟩, %hacc⟩
  sl_exec
  sl_step
  isplitl [H4]; · iexact H4
  isplitl [H5]; · iexact H5
  isplitl [H12]; · iexact H12
  isplitl [H9]
  · iexists _; isplitl [H9]; · iexact H9
    ipureintro
    refine rows_step arg9.view f9 k hk _ (k0_off4_eq k) _ _ _ h9 fun a t => ?_
    rw [pay89_at]
    exact pay88_row arg4 arg5 arg12 v9 X4 X5 X12 k hk _ (k0_off2_eq k) _ (k0_off3_eq k) a t
  isplitl [H14]
  · iexists _; isplitl [H14]; · iexact H14
    ipureintro
    refine rows_step arg14.view f14 k hk _ (k0_off3_eq k) _ (fun r _ => Finset.univ.sup fun t : Fin 1024 => S1 arg4 arg5 arg12 v9 X4 X5 X12 r t - v7 (ix2 0 t)) _ h14 fun a b => ?_
    rw [pay90_at]
    exact Finset.sup_congr rfl fun t _ => congrArg (· - _) (pay88_row arg4 arg5 arg12 v9 X4 X5 X12 k hk _ (k0_off2_eq k) _ (k0_off3_eq k) a t)
  ipureintro
  intro t
  rw [pay91_at, hacc, sup_succ _ k.val hk]
  exact congrArg (_ ⊔ ·) (Finset.sup_congr rfl fun a _ => pay88_row arg4 arg5 arg12 v9 X4 X5 X12 k hk _ (k0_off2_eq k) _ (k0_off3_eq k) a t)

/-- The row logarithms the second loop leaves. -/
def L2 (G9 : BufTy.Contents (Elt Ideal) arg9.view.ty) (G14 : BufTy.Contents (Elt Ideal) arg14.view.ty) (r : Fin 1024) (b : Fin 128) : EReal :=
  arg14.view.read (Elt Ideal) G14 (ix2 r b) + Ideal.log (∑ t : Fin 1024, Ideal.exp2 (arg9.view.read (Elt Ideal) G9 (ix2 r t) - v7 (ix2 0 t) - arg14.view.read (Elt Ideal) G14 (ix2 r (lane t)))) * (((Real.log 2)⁻¹ : ℝ) : EReal)

/-- The second loop before block `k`: row logarithms in place of row maxima for the rows before it, column sums carried. -/
def inv2 (v591 : FVec Ideal S1x1024 .f32) (G9 : BufTy.Contents (Elt Ideal) arg9.view.ty) (G14 : BufTy.Contents (Elt Ideal) arg14.view.ty) (k : ℕ) (acc : FVec Ideal S1x1024 .f32) : sProp 𝕄 :=
  iprop((arg9.view.loc (c : Thread nD τ) ↦[arg9.view.set]{fullShare} G9)
    ∗ (∃ f, (arg14.view.loc (c : Thread nD τ) ↦[arg14.view.set]{fullShare} f) ∗ ⌜∀ (r : Fin 1024) (b : Fin 128), arg14.view.read (Elt Ideal) f (ix2 r b) = if r.val < 128 * k then L2 arg9 arg14 v7 G9 G14 r b else arg14.view.read (Elt Ideal) G14 (ix2 r b)⌝)
    ∗ ⌜∀ t : Fin 1024, acc (ix2 0 t) = ∑ r ∈ upTo k, Ideal.exp2 (arg9.view.read (Elt Ideal) G9 (ix2 r t) - v591 (ix2 0 t))⌝)

set_option maxHeartbeats 1000000 in
theorem step2 (v591 : FVec Ideal S1x1024 .f32) (G9 : BufTy.Contents (Elt Ideal) arg9.view.ty) (G14 : BufTy.Contents (Elt Ideal) arg14.view.ty) (k : Fin k0_t2_loop.trips) (acc : FVec Ideal S1x1024 .f32) :
    inv2 c arg9 arg14 v7 v591 G9 G14 k acc
      ⊢ wp frame (wpE (defs₀ (F := Ideal)) Variants.none (c : Thread nD τ) none) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 v591 k acc)
          (inv2 c arg9 arg14 v7 v591 G9 G14 (k.val + 1)) := by
  have hk : k.val < 8 := Nat.lt_of_lt_of_le k.isLt k0_t2_abs.2.1
  unfold inv2 k0_t2_body
  iintro ⟨H9, ⟨%f14, H14, %h14⟩, %hacc⟩
  sl_exec
  sl_step
  have h9r : ∀ (inb : ∀ a, k0_off5 k a + S128x1024.size a ≤ S1024x1024.size a) (a : Fin 128) (t : Fin 1024),
      View.readAt (Elt Ideal) arg9.view (Rect.unit (s := S1024x1024) (k0_off5 k) S128x1024.size inb).toLoadRect G9 (ix2 a t) = arg9.view.read (Elt Ideal) G9 (ix2 (row k hk a) t) :=
    fun inb a t => readAt2 arg9.view G9 (128 * k.val) 0 inb (k0_off5_eq k) a t (row k hk a) t rfl (Nat.zero_add _).symm
  have h14r : ∀ (inb : ∀ a, k0_off6 k a + S128x128.size a ≤ S1024x128.size a) (a b : Fin 128),
      View.readAt (Elt Ideal) arg14.view (Rect.unit (s := S1024x128) (k0_off6 k) S128x128.size inb).toLoadRect f14 (ix2 a b) = arg14.view.read (Elt Ideal) G14 (ix2 (row k hk a) b) :=
    fun inb a b => (readAt2 arg14.view f14 (128 * k.val) 0 inb (k0_off6_eq k) a b (row k hk a) b rfl (Nat.zero_add _).symm).trans ((h14 _ _).trans (if_neg (by show ¬ 128 * k.val + a.val < _; omega)))
  isplitl [H9]; · iexact H9
  isplitl [H14]
  · iexists _; isplitl [H14]; · iexact H14
    ipureintro
    refine rows_step arg14.view f14 k hk _ (k0_off6_eq k) _ (L2 arg9 arg14 v7 G9 G14) _ h14 fun a b => ?_
    rw [pay93_at]
    unfold L2
    simp only [h9r, h14r]
  ipureintro
  intro t
  rw [pay94_at, hacc, sum_succ _ k.val hk]
  simp only [h9r]

/-- The fallback's matrix of two softmaxes. -/
def F3 (v598 : FVec Ideal S1x1024 .f32) (G9 : BufTy.Contents (Elt Ideal) arg9.view.ty) (G14 : BufTy.Contents (Elt Ideal) arg14.view.ty) (r t : Fin 1024) : EReal :=
  Ideal.exp2 (arg9.view.read (Elt Ideal) G9 (ix2 r t) - v7 (ix2 0 t) - arg14.view.read (Elt Ideal) G14 (ix2 r (lane t))) + Ideal.exp2 (arg9.view.read (Elt Ideal) G9 (ix2 r t) - v598 (ix2 0 t))

/-- The fallback's loss of a row. -/
def loss3 (G9 : BufTy.Contents (Elt Ideal) arg9.view.ty) (X11 : BufTy.Contents (Elt Ideal) arg11.view.ty) (X14 : BufTy.Contents (Elt Ideal) arg14.view.ty) (X15 : BufTy.Contents (Elt Ideal) arg15.view.ty) (t : Fin 1024) : EReal :=
  ((Real.log 2 : ℝ) : EReal) * ((arg14.view.read (Elt Ideal) X14 (ix2 t (lane t)) - (arg9.view.read (Elt Ideal) G9 (ix2 t t) - arg15.view.read (Elt Ideal) X15 (ix2 0 t))) + (arg11.view.read (Elt Ideal) X11 (ix2 0 t) - arg9.view.read (Elt Ideal) G9 (ix2 t t)))

/-- The third loop before block `k`. -/
def inv3 (v598 : FVec Ideal S1x1024 .f32) (G9 : BufTy.Contents (Elt Ideal) arg9.view.ty) (G10 : BufTy.Contents (Elt Ideal) arg10.view.ty) (G16 : BufTy.Contents (Elt Ideal) arg16.view.ty) (X11 : BufTy.Contents (Elt Ideal) arg11.view.ty) (X14 : BufTy.Contents (Elt Ideal) arg14.view.ty) (X15 : BufTy.Contents (Elt Ideal) arg15.view.ty) (k : ℕ) (_ : Unit) : sProp 𝕄 :=
  iprop((arg11.view.loc (c : Thread nD τ) ↦[arg11.view.set]{fullShare} X11) ∗ (arg14.view.loc (c : Thread nD τ) ↦[arg14.view.set]{fullShare} X14) ∗ (arg15.view.loc (c : Thread nD τ) ↦[arg15.view.set]{fullShare} X15)
    ∗ (∃ f, (arg9.view.loc (c : Thread nD τ) ↦[arg9.view.set]{fullShare} f) ∗ ⌜∀ r t : Fin 1024, arg9.view.read (Elt Ideal) f (ix2 r t) = if r.val < 128 * k then F3 arg9 arg14 v7 v598 G9 X14 r t else arg9.view.read (Elt Ideal) G9 (ix2 r t)⌝)
    ∗ (∃ f, (arg10.view.loc (c : Thread nD τ) ↦[arg10.view.set]{fullShare} f) ∗ ⌜∀ (r : Fin 1024) (b : Fin 128), arg10.view.read (Elt Ideal) f (ix2 r b) = if r.val < 128 * k then (1 : EReal) else arg10.view.read (Elt Ideal) G10 (ix2 r b)⌝)
    ∗ (∃ f, (arg16.view.loc (c : Thread nD τ) ↦[arg16.view.set]{fullShare} f) ∗ ⌜∀ t : Fin 1024, (∀ a b, v12 (ix2 a b) = if a = b then 1#1 else 0#1) → arg16.view.read (Elt Ideal) f (ix2 0 t) = if t.val < 128 * k then loss3 arg9 arg11 arg14 arg15 G9 X11 X14 X15 t else arg16.view.read (Elt Ideal) G16 (ix2 0 t)⌝))

set_option maxHeartbeats 1000000 in
theorem step3 (v591 v594 : FVec Ideal S1x1024 .f32) (G9 : BufTy.Contents (Elt Ideal) arg9.view.ty) (G10 : BufTy.Contents (Elt Ideal) arg10.view.ty) (G16 : BufTy.Contents (Elt Ideal) arg16.view.ty) (X11 : BufTy.Contents (Elt Ideal) arg11.view.ty) (X14 : BufTy.Contents (Elt Ideal) arg14.view.ty) (X15 : BufTy.Contents (Elt Ideal) arg15.view.ty) (k : Fin k0_t3_loop.trips) (acc : Unit) :
    inv3 c arg9 arg10 arg11 arg14 arg15 arg16 v7 v12 (k0_pay95 v591 v594) G9 G10 G16 X11 X14 X15 k acc
      ⊢ wp frame (wpE (defs₀ (F := Ideal)) Variants.none (c : Thread nD τ) none) E (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 v591 v594 k acc)
          (inv3 c arg9 arg10 arg11 arg14 arg15 arg16 v7 v12 (k0_pay95 v591 v594) G9 G10 G16 X11 X14 X15 (k.val + 1)) := by
  have hk : k.val < 8 := Nat.lt_of_lt_of_le k.isLt k0_t3_abs.2.1
  unfold inv3 k0_t3_body
  simp only [k0_part1_eq_skeleton]
  iintro ⟨H11, H14, H15, ⟨%f9, H9, %h9⟩, ⟨%f10, H10, %h10⟩, ⟨%f16, H16, %h16⟩⟩
  sl_exec
  sl_step
  have h9r : ∀ (inb : ∀ a, k0_off7 k a + S128x1024.size a ≤ S1024x1024.size a) (a : Fin 128) (t : Fin 1024),
      View.readAt (Elt Ideal) arg9.view (Rect.unit (s := S1024x1024) (k0_off7 k) S128x1024.size inb).toLoadRect f9 (ix2 a t) = arg9.view.read (Elt Ideal) G9 (ix2 (row k hk a) t) :=
    fun inb a t => (readAt2 arg9.view f9 (128 * k.val) 0 inb (k0_off7_eq k) a t (row k hk a) t rfl (Nat.zero_add _).symm).trans ((h9 _ _).trans (if_neg (by show ¬ 128 * k.val + a.val < _; omega)))
  have h14r : ∀ (inb : ∀ a, k0_off8 k a + S128x128.size a ≤ S1024x128.size a) (a b : Fin 128),
      View.readAt (Elt Ideal) arg14.view (Rect.unit (s := S1024x128) (k0_off8 k) S128x128.size inb).toLoadRect X14 (ix2 a b) = arg14.view.read (Elt Ideal) X14 (ix2 (row k hk a) b) :=
    fun inb a b => readAt2 arg14.view X14 (128 * k.val) 0 inb (k0_off8_eq k) a b (row k hk a) b rfl (Nat.zero_add _).symm
  have h9d : ∀ (inb : ∀ a, k0_off9 k a + S128x128.size a ≤ S1024x1024.size a) (a : Fin 128) (b : Fin 128),
      View.readAt (Elt Ideal) arg9.view (Rect.unit (s := S1024x1024) (k0_off9 k) S128x128.size inb).toLoadRect f9 (ix2 a b) = arg9.view.read (Elt Ideal) G9 (ix2 (row k hk a) (row k hk b)) :=
    fun inb a b => (readAt2 arg9.view f9 (128 * k.val) (128 * k.val) inb (k0_off9_eq k) a b (row k hk a) (row k hk b) rfl rfl).trans ((h9 _ _).trans (if_neg (by show ¬ 128 * k.val + a.val < _; omega)))
  have h11r : ∀ (inb : ∀ a, k0_off10 k a + S1x128.size a ≤ S1x1024.size a) (b : Fin 128),
      View.readAt (Elt Ideal) arg11.view (Rect.unit (s := S1x1024) (k0_off10 k) S1x128.size inb).toLoadRect X11 (ix2 0 b) = arg11.view.read (Elt Ideal) X11 (ix2 0 (row k hk b)) :=
    fun inb b => readAt2 arg11.view X11 0 (128 * k.val) inb (k0_off10_eq k) 0 b 0 (row k hk b) rfl rfl
  have h15r : ∀ (inb : ∀ a, k0_off10 k a + S1x128.size a ≤ S1x1024.size a) (b : Fin 128),
      View.readAt (Elt Ideal) arg15.view (Rect.unit (s := S1x1024) (k0_off10 k) S1x128.size inb).toLoadRect X15 (ix2 0 b) = arg15.view.read (Elt Ideal) X15 (ix2 0 (row k hk b)) :=
    fun inb b => readAt2 arg15.view X15 0 (128 * k.val) inb (k0_off10_eq k) 0 b 0 (row k hk b) rfl rfl
  have hlane : ∀ b : Fin 128, lane (row k hk b) = b := fun b => Fin.ext (by show (128 * k.val + b.val) % 128 = b.val; have := b.isLt; omega)
  isplitl [H11]; · iexact H11
  isplitl [H14]; · iexact H14
  isplitl [H15]; · iexact H15
  isplitl [H9]
  · iexists _; isplitl [H9]; · iexact H9
    ipureintro
    refine rows_step arg9.view f9 k hk _ (k0_off7_eq k) _ (F3 arg9 arg14 v7 (k0_pay95 v591 v594) G9 X14) _ h9 fun a t => ?_
    unfold step3.sl.r
    rw [pay2_at]
    unfold F3
    simp only [h9r, h14r]
  isplitl [H10]
  · iexists _; isplitl [H10]; · iexact H10
    ipureintro
    exact rows_step arg10.view f10 k hk _ (k0_off8_eq k) _ (fun _ _ => (1 : EReal)) _ h10 fun a b => pay97_at a b
  iexists _; isplitl [H16]; · iexact H16
  ipureintro
  intro t h12
  refine cols_step arg16.view f16 k hk _ (k0_off10_eq k) _ (loss3 arg9 arg11 arg14 arg15 G9 X11 X14 X15) _ (fun t => h16 t h12) (fun b => ?_) t
  rw [pay1_at _ _ _ _ _ h12]
  unfold loss3
  simp only [h9d, h14r, h11r, h15r, hlane]

end Cert.KernelIdeal.Hand

end
-- ==== Proof.Group.lean ====
/- One group of 1024 rows and 1024 columns over the extended reals: what the kernel computes of it, on its direct path and on its fallback. -/
module

public import Idealize.ShloMosaic.Lib.Pointwise

@[expose] public section

noncomputable section

namespace Cert.Group

open Idealize.ShloMosaic

/-- The reciprocal of the logarithm of two. -/
abbrev κ2 : EReal := (((Real.log 2)⁻¹ : ℝ) : EReal)
/-- Twenty times it. -/
abbrev κ20 : EReal := ((20 * (Real.log 2)⁻¹ : ℝ) : EReal)
/-- The logarithm of two. -/
abbrev ln2 : EReal := ((Real.log 2 : ℝ) : EReal)

section Slow
variable (S : Fin 1024 → Fin 1024 → EReal) (q : Fin 1024 → EReal)

/-- Row maxima of the shifted products. -/
def slowM (r : Fin 1024) : EReal := Finset.univ.sup fun t => S r t - q t
/-- Row logarithms of sums. -/
def slowL (r : Fin 1024) : EReal := slowM S q r + Ideal.log (∑ t, Ideal.exp2 (S r t - q t - slowM S q r)) * κ2
/-- Column maxima. -/
def slowCm (t : Fin 1024) : EReal := Finset.univ.sup fun r => S r t
/-- Column logarithms of sums. -/
def slowC (t : Fin 1024) : EReal := slowCm S t + Ideal.log (∑ r, Ideal.exp2 (S r t - slowCm S t)) * κ2
/-- The two softmaxes added. -/
def slowF (r t : Fin 1024) : EReal := Ideal.exp2 (S r t - q t - slowL S q r) + Ideal.exp2 (S r t - slowC S t)
/-- The loss of a row. -/
def slowLoss (t : Fin 1024) : EReal := ln2 * ((slowL S q t - (S t t - q t)) + (slowC S t - S t t))
end Slow

section Fast
variable (X : Fin 1024 → Fin 1024 → EReal)
/-- A row's sum. -/
def rowSum (r : Fin 1024) : EReal := ∑ t, Ideal.exp2 (X r t)
/-- A column's sum. -/
def colSum (t : Fin 1024) : EReal := ∑ r, Ideal.exp2 (X r t)
/-- The loss of a row. -/
def fastLoss (t : Fin 1024) : EReal :=
  ln2 * ((Ideal.log (rowSum X t) * κ2 + Ideal.log (colSum X t) * κ2) - 2 * X t t)
end Fast

/-- A group's inputs. -/
structure Inp where
  uc : Fin 1024 → Fin 256 → EReal
  vc : Fin 1024 → Fin 256 → EReal
  us : Fin 1024 → EReal
  vs : Fin 1024 → EReal
  lq : Fin 1024 → EReal

namespace Inp
variable (I : Inp)

def q (t : Fin 1024) : EReal := I.lq t * κ2
/-- The scaled products. -/
def S (r t : Fin 1024) : EReal := (∑ k, I.uc r k * I.vc t k) * (I.us r * (I.vs t * κ20))
/-- The constant taken off every exponent. -/
def shift : EReal := (Finset.univ.sup fun t => 0 - I.q t) + 30
def X (r t : Fin 1024) : EReal := I.S r t - (I.q t + I.shift)

/-- The matrix both gradients are made of, from a matrix and its row and column factors. -/
def G (F : Fin 1024 → Fin 1024 → EReal) (α γ : Fin 1024 → EReal) (r t : Fin 1024) : EReal :=
  F r t * (α r + γ t) - if r = t then 2 else 0
def du (g : Fin 1024 → Fin 1024 → EReal) (r : Fin 1024) (d : Fin 256) : EReal := (∑ t, g r t * (I.vc t d * I.vs t)) * 20
def dv (g : Fin 1024 → Fin 1024 → EReal) (t : Fin 1024) (d : Fin 256) : EReal := (∑ r, g r t * (I.uc r d * I.us r)) * 20

/-- The direct path's factors. -/
def fastG : Fin 1024 → Fin 1024 → EReal :=
  G (fun r t => Ideal.exp2 (I.X r t)) (fun r => Ideal.div 1 (rowSum I.X r)) (fun t => Ideal.div 1 (colSum I.X t))
/-- The fallback's. -/
def slowG : Fin 1024 → Fin 1024 → EReal := G (slowF I.S I.q) (fun _ => 1) (fun _ => 0)

end Inp
end Cert.Group

end
-- ==== Proof.KernelIdealBranch.lean ====
/- The part of the kernel body holding the data-dependent branch, run both ways. -/
module

public import proofs.«01_k».proof.Proof.KernelIdealLoops
public import proofs.«01_k».proof.Proof.Group

@[expose] public section

set_option warn.classDefReducibility false
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.RowReads Cert.Chunks

local notation "𝕄" => MT nD τ sig Unit (Elt Ideal) ℕ (UR sig nD τ) ℕ

variable (c : Dev nD) (E : Set ℕ) (i : grid0.Coords) (arg1 : Memref sig .tc .vmem S16x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1x1024x256 .fp8e4m3) (harg4 : arg4.IsWhole) (arg5 : Memref sig .tc .vmem S1x1024x256 .fp8e4m3) (harg5 : arg5.IsWhole) (arg6 : Memref sig .tc .vmem S16x1024 .f32) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1x1024 .f32) (harg15 : arg15.IsWhole) (arg16 : Memref sig .tc .vmem S1x1024 .f32) (harg16 : arg16.IsWhole)
  (arg0 : BitVec 32) (v7 v9 : FVec Ideal S1x1024 .f32) (v12 : IVec S128x128 1) (v387 v391 : Ideal .f32) (v392 : FVec Ideal S1x1x1024 .f32)

def loop1 (X4 : BufTy.Contents (Elt Ideal) arg4.view.ty) (X5 : BufTy.Contents (Elt Ideal) arg5.view.ty) (X12 : BufTy.Contents (Elt Ideal) arg12.view.ty) (G9 : BufTy.Contents (Elt Ideal) arg9.view.ty) (G14 : BufTy.Contents (Elt Ideal) arg14.view.ty) :
    LoopInv (M := 𝕄) frame (wpE (defs₀ (F := Ideal)) Variants.none (c : Thread nD τ) none) E k0_t1_loop.lb k0_t1_loop.ub k0_t1_loop.st k0_t1_ok (k0_pay87 (F := Ideal))
      (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392) where
  inv := inv1 c arg4 arg5 arg9 arg12 arg14 v7 v9 X4 X5 X12 G9 G14
  step := step1 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 X4 X5 X12 G9 G14

def loop2 (v591 : FVec Ideal S1x1024 .f32) (G9 : BufTy.Contents (Elt Ideal) arg9.view.ty) (G14 : BufTy.Contents (Elt Ideal) arg14.view.ty) :
    LoopInv (M := 𝕄) frame (wpE (defs₀ (F := Ideal)) Variants.none (c : Thread nD τ) none) E k0_t2_loop.lb k0_t2_loop.ub k0_t2_loop.st k0_t2_ok (k0_pay92 (F := Ideal))
      (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 v591) where
  inv := inv2 c arg9 arg14 v7 v591 G9 G14
  step := step2 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 v591 G9 G14

def loop3 (v591 v594 : FVec Ideal S1x1024 .f32) (G9 : BufTy.Contents (Elt Ideal) arg9.view.ty) (G10 : BufTy.Contents (Elt Ideal) arg10.view.ty) (G16 : BufTy.Contents (Elt Ideal) arg16.view.ty) (X11 : BufTy.Contents (Elt Ideal) arg11.view.ty) (X14 : BufTy.Contents (Elt Ideal) arg14.view.ty) (X15 : BufTy.Contents (Elt Ideal) arg15.view.ty) :
    LoopInv (M := 𝕄) frame (wpE (defs₀ (F := Ideal)) Variants.none (c : Thread nD τ) none) E k0_t3_loop.lb k0_t3_loop.ub k0_t3_loop.st k0_t3_ok ⟨⟩
      (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 v591 v594) where
  inv := inv3 c arg9 arg10 arg11 arg14 arg15 arg16 v7 v12 (k0_pay95 v591 v594) G9 G10 G16 X11 X14 X15
  step := step3 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 v591 v594 G9 G10 G16 X11 X14 X15

/-- What the fallback leaves in the matrix, the row factors, the column factors and the row of losses. -/
def Slow (X4 : BufTy.Contents (Elt Ideal) arg4.view.ty) (X5 : BufTy.Contents (Elt Ideal) arg5.view.ty) (X12 : BufTy.Contents (Elt Ideal) arg12.view.ty) (f15 : BufTy.Contents (Elt Ideal) arg15.view.ty) (g9 : BufTy.Contents (Elt Ideal) arg9.view.ty) (g10 : BufTy.Contents (Elt Ideal) arg10.view.ty) (g11 : BufTy.Contents (Elt Ideal) arg11.view.ty) (g16 : BufTy.Contents (Elt Ideal) arg16.view.ty) : Prop :=
  (∀ r t : Fin 1024, arg9.view.read (Elt Ideal) g9 (ix2 r t) = Group.slowF (S1 arg4 arg5 arg12 v9 X4 X5 X12) (fun t => v7 (ix2 0 t)) r t)
    ∧ (∀ (r : Fin 1024) (b : Fin 128), arg10.view.read (Elt Ideal) g10 (ix2 r b) = (1 : EReal))
    ∧ (∀ t : Fin 1024, arg11.view.read (Elt Ideal) g11 (ix2 0 t) = (0 : EReal))
    ∧ ((∀ a b, v12 (ix2 a b) = if a = b then 1#1 else 0#1) → (∀ t : Fin 1024, arg15.view.read (Elt Ideal) f15 (ix2 0 t) = v7 (ix2 0 t)) → ∀ t : Fin 1024, arg16.view.read (Elt Ideal) g16 (ix2 0 t) = Group.slowLoss (S1 arg4 arg5 arg12 v9 X4 X5 X12) (fun t => v7 (ix2 0 t)) t)

/-- What the branch leaves: everything as it was, or the fallback's values. -/
def Branch (X4 : BufTy.Contents (Elt Ideal) arg4.view.ty) (X5 : BufTy.Contents (Elt Ideal) arg5.view.ty) (X12 : BufTy.Contents (Elt Ideal) arg12.view.ty) (f15 : BufTy.Contents (Elt Ideal) arg15.view.ty) (f9 g9 : BufTy.Contents (Elt Ideal) arg9.view.ty) (f10 g10 : BufTy.Contents (Elt Ideal) arg10.view.ty) (f11 g11 : BufTy.Contents (Elt Ideal) arg11.view.ty) (f16 g16 : BufTy.Contents (Elt Ideal) arg16.view.ty) : Prop :=
  (g9 = f9 ∧ g10 = f10 ∧ g11 = f11 ∧ g16 = f16) ∨ Slow arg4 arg5 arg9 arg10 arg11 arg12 arg15 arg16 v7 v9 v12 X4 X5 X12 f15 g9 g10 g11 g16

theorem slow_of_loops (X4 : BufTy.Contents (Elt Ideal) arg4.view.ty) (X5 : BufTy.Contents (Elt Ideal) arg5.view.ty) (X12 : BufTy.Contents (Elt Ideal) arg12.view.ty) (f14 : BufTy.Contents (Elt Ideal) arg14.view.ty) (f15 : BufTy.Contents (Elt Ideal) arg15.view.ty) (f9 g9 h9 : BufTy.Contents (Elt Ideal) arg9.view.ty) (f10 h10 : BufTy.Contents (Elt Ideal) arg10.view.ty) (g11 h11 : BufTy.Contents (Elt Ideal) arg11.view.ty) (f16 h16 : BufTy.Contents (Elt Ideal) arg16.view.ty)
    (g14 h14 : BufTy.Contents (Elt Ideal) arg14.view.ty) (v591 v594 : FVec Ideal S1x1024 .f32)
    (e9 : ∀ r t : Fin 1024, arg9.view.read (Elt Ideal) g9 (ix2 r t) = if r.val < 128 * 8 then (S1 arg4 arg5 arg12 v9 X4 X5 X12) r t else arg9.view.read (Elt Ideal) f9 (ix2 r t))
    (e14 : ∀ (r : Fin 1024) (b : Fin 128), arg14.view.read (Elt Ideal) g14 (ix2 r b) = if r.val < 128 * 8 then (Finset.univ.sup fun t : Fin 1024 => (S1 arg4 arg5 arg12 v9 X4 X5 X12) r t - v7 (ix2 0 t)) else arg14.view.read (Elt Ideal) f14 (ix2 r b))
    (ea : ∀ t : Fin 1024, v591 (ix2 0 t) = (upTo 8).sup fun r => (S1 arg4 arg5 arg12 v9 X4 X5 X12) r t)
    (e14' : ∀ (r : Fin 1024) (b : Fin 128), arg14.view.read (Elt Ideal) h14 (ix2 r b) = if r.val < 128 * 8 then L2 arg9 arg14 v7 g9 g14 r b else arg14.view.read (Elt Ideal) g14 (ix2 r b))
    (eb : ∀ t : Fin 1024, v594 (ix2 0 t) = ∑ r ∈ upTo 8, Ideal.exp2 (arg9.view.read (Elt Ideal) g9 (ix2 r t) - v591 (ix2 0 t)))
    (e11 : ∀ t : Fin 1024, arg11.view.read (Elt Ideal) g11 (ix2 0 t) = k0_pay95 v591 v594 (ix2 0 t))
    (e9' : ∀ r t : Fin 1024, arg9.view.read (Elt Ideal) h9 (ix2 r t) = if r.val < 128 * 8 then F3 arg9 arg14 v7 (k0_pay95 v591 v594) g9 h14 r t else arg9.view.read (Elt Ideal) g9 (ix2 r t))
    (e10 : ∀ (r : Fin 1024) (b : Fin 128), arg10.view.read (Elt Ideal) h10 (ix2 r b) = if r.val < 128 * 8 then (1 : EReal) else arg10.view.read (Elt Ideal) f10 (ix2 r b))
    (e16 : ∀ t : Fin 1024, (∀ a b, v12 (ix2 a b) = if a = b then 1#1 else 0#1) → arg16.view.read (Elt Ideal) h16 (ix2 0 t) = if t.val < 128 * 8 then loss3 arg9 arg11 arg14 arg15 g9 g11 h14 f15 t else arg16.view.read (Elt Ideal) f16 (ix2 0 t))
    (e11' : ∀ t : Fin 1024, arg11.view.read (Elt Ideal) h11 (ix2 0 t) = (0 : EReal)) :
    Slow arg4 arg5 arg9 arg10 arg11 arg12 arg15 arg16 v7 v9 v12 X4 X5 X12 f15 h9 h10 h11 h16 := by
  have lt : ∀ r : Fin 1024, r.val < 128 * 8 := fun r => r.isLt
  simp only [lt, if_true] at e9 e14 e14' e9' e10 e16
  rw [upTo_eight] at ea eb
  have hM : ∀ r b, arg14.view.read (Elt Ideal) g14 (ix2 r b) = Group.slowM (S1 arg4 arg5 arg12 v9 X4 X5 X12) (fun t => v7 (ix2 0 t)) r := e14
  have hL : ∀ r b, arg14.view.read (Elt Ideal) h14 (ix2 r b) = Group.slowL (S1 arg4 arg5 arg12 v9 X4 X5 X12) (fun t => v7 (ix2 0 t)) r := fun r b => by
    rw [e14', L2, Group.slowL]; simp only [hM, e9]
  have hC : ∀ t, k0_pay95 v591 v594 (ix2 0 t) = Group.slowC (S1 arg4 arg5 arg12 v9 X4 X5 X12) t := fun t => by
    rw [pay95_at, eb, ea]; simp only [e9]; rfl
  refine ⟨fun r t => ?_, e10, e11', fun h12 hq t => ?_⟩
  · rw [e9', F3, Group.slowF, hL, hC, e9]
  · rw [e16 t h12, loss3, Group.slowLoss, hL, e11, hC, e9, hq]

set_option maxHeartbeats 1000000 in
theorem part12_runs (X4 : BufTy.Contents (Elt Ideal) arg4.view.ty) (X5 : BufTy.Contents (Elt Ideal) arg5.view.ty) (f6 : BufTy.Contents (Elt Ideal) arg6.view.ty) (f9 : BufTy.Contents (Elt Ideal) arg9.view.ty) (f10 : BufTy.Contents (Elt Ideal) arg10.view.ty) (f11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) :
    (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄)
      ⊢ wp frame (wpE (defs₀ (F := Ideal)) Variants.none (c : Thread nD τ) none) E (k0_part12 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392) (fun res =>
        iprop(∃ g9 g10 g11 g14 g16, (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt Ideal) f6 [⟨Rect.unit (s := S16x1024) (k0_off11 i) S1x1024.size (k0_off11_inb i), (View.readAt (Elt Ideal) arg16.view (Rect.unit (s := S1x1024) ![0, 0] S1x1024.size inb_S1x1024_S1x1024_0_0).toLoadRect g16)⟩])) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} X12)
          ∗ (arg13.view.loc (c : Thread nD τ) ↦[arg13.view.set]{fullShare} (arg13.view.writes (Elt Ideal) f13 [⟨Rect.unit (s := S1024x1024) ![0, 0] S128x1024.size inb_S1024x1024_S128x1024_0_0, k0_pay100 v12 (View.readAt (Elt Ideal) arg11.view (Rect.unit (s := S1x1024) ![0, 0] S1x1024.size inb_S1x1024_S1x1024_0_0).toLoadRect g11) (View.readAt (Elt Ideal) arg9.view (Rect.unit (s := S1024x1024) ![0, 0] S128x1024.size inb_S1024x1024_S128x1024_0_0).toLoadRect g9) (View.readAt (Elt Ideal) arg10.view (Rect.unit (s := S1024x128) ![0, 0] S128x128.size inb_S1024x128_S128x128_0_0).toLoadRect g10)⟩])) ∗ (arg14.view.loc (c : Thread nD τ) ↦[arg14.view.set]{fullShare} g14) ∗ (arg15.view.loc (c : Thread nD τ) ↦[arg15.view.set]{fullShare} f15) ∗ (arg16.view.loc (c : Thread nD τ) ↦[arg16.view.set]{fullShare} g16)
          ∗ ⌜Branch arg4 arg5 arg9 arg10 arg11 arg12 arg15 arg16 v7 v9 v12 X4 X5 X12 f15 f9 g9 f10 g10 f11 g11 f16 g16⌝
          ∗ ⌜res = (⟨(View.readAt (Elt Ideal) arg11.view (Rect.unit (s := S1x1024) ![0, 0] S1x1024.size inb_S1x1024_S1x1024_0_0).toLoadRect g11), k0_pay99 (F := Ideal) v12, (View.readAt (Elt Ideal) arg9.view (Rect.unit (s := S1024x1024) ![128, 0] S128x1024.size inb_S1024x1024_S128x1024_128_0).toLoadRect g9), k0_pay101 (View.readAt (Elt Ideal) arg11.view (Rect.unit (s := S1x1024) ![0, 0] S1x1024.size inb_S1x1024_S1x1024_0_0).toLoadRect g11) (View.readAt (Elt Ideal) arg10.view (Rect.unit (s := S1024x128) ![128, 0] S128x128.size inb_S1024x128_S128x128_128_0).toLoadRect g10)⟩ : (Σ' (v406 : Vec Ideal S1x1024 .f32) (v409 : FVec Ideal S128x128 .f32) (v424 : Vec Ideal S128x1024 .f32), FVec Ideal S128x1024 .f32))⌝)) := by
  simp only [k0_part12_eq_skeleton]; unfold k0_part12_skel
  iintro ⟨H4, H5, H6, H9, H10, H11, H12, H13, H14, H15, H16⟩
  have h1a : ∀ r t : Fin 1024, arg9.view.read (Elt Ideal) f9 (ix2 r t) = if r.val < 128 * 0 then S1 arg4 arg5 arg12 v9 X4 X5 X12 r t else arg9.view.read (Elt Ideal) f9 (ix2 r t) := fun r t => (if_neg (Nat.not_lt_zero _)).symm
  have h1b : ∀ (r : Fin 1024) (b : Fin 128), arg14.view.read (Elt Ideal) f14 (ix2 r b) = if r.val < 128 * 0 then (Finset.univ.sup fun t : Fin 1024 => S1 arg4 arg5 arg12 v9 X4 X5 X12 r t - v7 (ix2 0 t)) else arg14.view.read (Elt Ideal) f14 (ix2 r b) := fun r t => (if_neg (Nat.not_lt_zero _)).symm
  have h1c : ∀ t : Fin 1024, k0_pay87 (F := Ideal) (ix2 0 t) = (upTo 0).sup fun r => S1 arg4 arg5 arg12 v9 X4 X5 X12 r t := fun t => (pay87_at t).trans (by rw [upTo_zero, Finset.sup_empty])
  let L := loop1 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 X4 X5 X12 f9 f14
  sl_exec
  split
  · sl_exec
    rename_i v591
    have ht1 : Scf.trips k0_t1_loop.lb k0_t1_loop.ub k0_t1_loop.st = 8 := by decide
    have ht2 : Scf.trips k0_t2_loop.lb k0_t2_loop.ub k0_t2_loop.st = 8 := by decide
    have ht3 : Scf.trips k0_t3_loop.lb k0_t3_loop.ub k0_t3_loop.st = 8 := by decide
    rw [ht1] at hL4 hL6 hL7
    rename' fL0 => g9, fL1 => g14, hL4 => e9, hL6 => e14, hL7 => ea
    have h2a : ∀ (r : Fin 1024) (b : Fin 128), arg14.view.read (Elt Ideal) g14 (ix2 r b) = if r.val < 128 * 0 then L2 arg9 arg14 v7 g9 g14 r b else arg14.view.read (Elt Ideal) g14 (ix2 r b) := fun r t => (if_neg (Nat.not_lt_zero _)).symm
    have h2b : ∀ t : Fin 1024, k0_pay92 (F := Ideal) (ix2 0 t) = ∑ r ∈ upTo 0, Ideal.exp2 (arg9.view.read (Elt Ideal) g9 (ix2 r t) - v591 (ix2 0 t)) := fun t => (pay92_at t).trans (by rw [upTo_zero, Finset.sum_empty])
    let L' := loop2 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 v591 g9 g14
    sl_exec
    rename_i v594
    rw [ht2] at hL2 hL3
    rename' fL0 => h14, hL2 => e14', hL3 => eb
    have h3a : ∀ r t : Fin 1024, arg9.view.read (Elt Ideal) g9 (ix2 r t) = if r.val < 128 * 0 then F3 arg9 arg14 v7 (k0_pay95 v591 v594) g9 h14 r t else arg9.view.read (Elt Ideal) g9 (ix2 r t) := fun r t => (if_neg (Nat.not_lt_zero _)).symm
    have h3b : ∀ (r : Fin 1024) (b : Fin 128), arg10.view.read (Elt Ideal) f10 (ix2 r b) = if r.val < 128 * 0 then (1 : EReal) else arg10.view.read (Elt Ideal) f10 (ix2 r b) := fun r t => (if_neg (Nat.not_lt_zero _)).symm
    have h3c : ∀ t : Fin 1024, (∀ a b, v12 (ix2 a b) = if a = b then 1#1 else 0#1) → arg16.view.read (Elt Ideal) f16 (ix2 0 t) = if t.val < 128 * 0 then loss3 arg9 arg11 arg14 arg15 g9 (arg11.view.writes (Elt Ideal) arg11.view.junk (part12_runs.sl.H11_1 v591 v594)) h14 f15 t else arg16.view.read (Elt Ideal) f16 (ix2 0 t) := fun t _ => (if_neg (Nat.not_lt_zero _)).symm
    let L'' := loop3 c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v7 v9 v12 v387 v391 v392 v591 v594 g9 f10 f16 (arg11.view.writes (Elt Ideal) arg11.view.junk (part12_runs.sl.H11_1 v591 v594)) h14 f15
    have hb : ∀ h9 h10 g11 h16, (∀ t : Fin 1024, arg11.view.read (Elt Ideal) g11 (ix2 0 t) = (0 : EReal)) → (∀ r t : Fin 1024, arg9.view.read (Elt Ideal) h9 (ix2 r t) = if r.val < 128 * 8 then F3 arg9 arg14 v7 (k0_pay95 v591 v594) g9 h14 r t else arg9.view.read (Elt Ideal) g9 (ix2 r t))
      → (∀ (r : Fin 1024) (b : Fin 128), arg10.view.read (Elt Ideal) h10 (ix2 r b) = if r.val < 128 * 8 then (1 : EReal) else arg10.view.read (Elt Ideal) f10 (ix2 r b))
      → (∀ t : Fin 1024, (∀ a b, v12 (ix2 a b) = if a = b then 1#1 else 0#1) → arg16.view.read (Elt Ideal) h16 (ix2 0 t) = if t.val < 128 * 8 then loss3 arg9 arg11 arg14 arg15 g9 (arg11.view.writes (Elt Ideal) arg11.view.junk (part12_runs.sl.H11_1 v591 v594)) h14 f15 t else arg16.view.read (Elt Ideal) f16 (ix2 0 t))
      → Branch arg4 arg5 arg9 arg10 arg11 arg12 arg15 arg16 v7 v9 v12 X4 X5 X12 f15 f9 h9 f10 h10 f11 g11 f16 h16 := fun h9 h10 g11 h16 e11' e9' e10 e16 => .inr <|
        slow_of_loops arg4 arg5 arg9 arg10 arg11 arg12 arg14 arg15 arg16 v7 v9 v12 X4 X5 X12 f14 f15 f9 g9 h9 f10 h10 (arg11.view.writes (Elt Ideal) arg11.view.junk (part12_runs.sl.H11_1 v591 v594)) g11 f16 h16 g14 h14 v591 v594 e9 e14 ea e14' eb
          (fun t => (read_writes2_in arg11.view _ 0 0 inb_S1x1024_S1x1024_0_0 rfl _ [] 0 t 0 t rfl (Nat.zero_add _).symm).trans (pay96_at _ _ _)) e9' e10 e16 e11'
    sl_exec
    rw [ht3] at hL4 hL6 hL8
    rename' fL0 => h9, fL1 => h10, fL2 => h16
    sl_step
    iexists h9, h10, _, h14, h16
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitr
    · ipureintro
      exact hb _ _ _ _ (fun t => (read_writes2_in arg11.view _ 0 0 inb_S1x1024_S1x1024_0_0 rfl _ _ 0 t 0 t rfl (Nat.zero_add _).symm).trans (pay98_at t)) hL4 hL6 hL8
    · ipureintro; rfl
  · have hb : Branch arg4 arg5 arg9 arg10 arg11 arg12 arg15 arg16 v7 v9 v12 X4 X5 X12 f15 f9 f9 f10 f10 f11 f11 f16 f16 := .inl ⟨rfl, rfl, rfl, rfl⟩
    sl_exec
    sl_step
    iexists f9, f10, f11, f14, f16
    sl_close

end Cert.KernelIdeal.Hand

end
-- ==== Proof.KernelIdealFastPays.lean ====
/- What the direct path's payloads and the gradients' hold at an index, over the extended reals. -/
module

public import proofs.«01_k».proof.Proof.KernelIdealSlowPays
public import proofs.«01_k».proof.Proof.Chunks

@[expose] public section

set_option maxRecDepth 16384

noncomputable section

namespace Cert.KernelIdeal.Hand

open Idealize.ShloMosaic Cert.KernelIdeal.Gen Cert.Chunks

theorem ofBits_two : Ideal.ofBits .f32 0x40000000#32 = (2 : EReal) := by
  simp [Ideal.ofBits, Ideal.ieee]
  try (rw [← EReal.coe_mul]; norm_num; rfl)
theorem ofBits_twenty : Ideal.ofBits .f32 0x41A00000#32 = (20 : EReal) := by
  simp [Ideal.ofBits, Ideal.ieee]
  try (rw [← EReal.coe_mul]; norm_num; rfl)
theorem ofBits_thirty : Ideal.ofBits .f32 0x41F00000#32 = (30 : EReal) := by
  simp [Ideal.ofBits, Ideal.ieee]
  try (rw [← EReal.coe_mul]; norm_num; rfl)

theorem pay5_at (a b : Fin 128) : k0_pay5 (ix2 a b) = if a = b then 1#1 else 0#1 := by
  pointwise [k0_pay5]
  unfold IntOp.cmpi
  by_cases h : a = b
  · subst h; simp
  · have : BitVec.ofNat 32 a.val ≠ BitVec.ofNat 32 b.val := fun e => h (Fin.ext (by
      have := congrArg BitVec.toNat e
      simp only [BitVec.toNat_ofNat] at this
      omega))
    rw [if_neg h, show (BitVec.ofNat 32 a.val == BitVec.ofNat 32 b.val) = false from beq_eq_false_iff_ne.mpr this]
    rfl

theorem pay3_at (v5 : Vec Ideal S1x1024 .f32) (t : Fin 1024) : k0_pay3 v5 (ix2 0 t) = v5 (ix2 0 t) * (((Real.log 2)⁻¹ : ℝ) : EReal) := by
  pointwise [k0_pay3]
  rfl
theorem pay4_at (v3 : Vec Ideal S1x1024 .f32) (t : Fin 1024) : k0_pay4 v3 (ix2 0 t) = v3 (ix2 0 t) * ((20 * (Real.log 2)⁻¹ : ℝ) : EReal) := by
  pointwise [k0_pay4]
  rfl
theorem pay8_at (v7 : FVec Ideal S1x1024 .f32) (t : Fin 1024) : k0_pay8 v7 k0_pay7 (ix2 0 t) = v7 (ix2 0 t) + ((Finset.univ.sup fun t => 0 - v7 (ix2 0 t)) + 30) := by
  pointwise [k0_pay8, k0_pay7]
  rw [ofBits_neg_inf, ofBits_thirty]
  rfl
theorem pay81_at (v7 : FVec Ideal S1x1024 .f32) (t : Fin 1024) : k0_pay81 v7 (ix2 0 t) = v7 (ix2 0 t) := by
  pointwise [k0_pay81]
theorem pay80_at (v335 : FVec Ideal S1x1024 .f32) (t : Fin 1024) : k0_pay80 v335 (ix2 0 t) = Ideal.div 1 (v335 (ix2 0 t)) := by
  pointwise [k0_pay80]

theorem pay19_at (v9 v56 : FVec Ideal S1x1024 .f32) (A : Vec Ideal S1x128x256 .fp8e4m3) (B : Vec Ideal S1x1024x256 .fp8e4m3)
    (C : Vec Ideal S128x128 .f32) (a : Fin 128) (t : Fin 1024) :
    k0_pay19 v9 v56 A B C (ix2 a t) = (∑ k : Fin 256, A (ix3 0 a k) * B (ix3 0 t k)) * C (ix2 a (lane t)) * v9 (ix2 0 t) - v56 (ix2 0 t) := by
  pointwise [k0_pay19]
  have hl : ∀ x, _ = _ := ladder fun i => C (ix2 a i)
  beta_reduce at hl
  rw [hl]
theorem pay21_at (v9 v56 : FVec Ideal S1x1024 .f32) (A : Vec Ideal S1x128x256 .fp8e4m3) (B : Vec Ideal S1x1024x256 .fp8e4m3)
    (C : Vec Ideal S128x128 .f32) (a : Fin 128) (t : Fin 1024) :
    k0_pay21 v9 v56 A B C (ix2 a t) = Ideal.exp2 (k0_pay19 v9 v56 A B C (ix2 a t)) := by
  pointwise [k0_pay21, k0_pay20]
  rfl
theorem pay22_at (v9 v56 v76 : FVec Ideal S1x1024 .f32) (A : Vec Ideal S1x128x256 .fp8e4m3) (B : Vec Ideal S1x1024x256 .fp8e4m3)
    (C : Vec Ideal S128x128 .f32) (t : Fin 1024) :
    k0_pay22 v9 v56 v76 A B C (ix2 0 t) = v76 (ix2 0 t) + ∑ a : Fin 128, Ideal.exp2 (k0_pay19 v9 v56 A B C (ix2 a t)) := by
  pointwise [k0_pay22, k0_pay20]
  rfl
theorem pay12_at (v7 v9 v49 : FVec Ideal S1x1024 .f32) (A : Vec Ideal S1x128x256 .fp8e4m3) (B : Vec Ideal S1x1024x256 .fp8e4m3)
    (C : Vec Ideal S128x128 .f32) (t : Fin 1024) :
    k0_pay12 v7 v9 v49 A B C (ix2 0 t) = 0 + ∑ a : Fin 128, Ideal.exp2 (k0_pay19 v9 (k0_pay8 v7 v49) A B C (ix2 a t)) := by
  show _ = 0 + ∑ a : Fin 128, Ideal.exp2 (k0_pay9 v7 v9 v49 A B C (ix2 a t))
  pointwise [k0_pay12, k0_pay10]
  rfl
theorem pay23_at (v9 v56 : FVec Ideal S1x1024 .f32) (A : Vec Ideal S1x128x256 .fp8e4m3) (B : Vec Ideal S1x1024x256 .fp8e4m3)
    (C : Vec Ideal S128x128 .f32) (a b : Fin 128) :
    k0_pay23 v9 v56 A B C (ix2 a b) = ∑ t : Fin 1024, Ideal.exp2 (k0_pay19 v9 v56 A B C (ix2 a t)) := by
  pointwise [k0_pay23, k0_pay20]
  rfl
theorem pay24_at (v9 v56 : FVec Ideal S1x1024 .f32) (A : Vec Ideal S1x128x256 .fp8e4m3) (B : Vec Ideal S1x1024x256 .fp8e4m3)
    (C : Vec Ideal S128x128 .f32) (a b : Fin 128) :
    k0_pay24 v9 v56 A B C (ix2 a b) = Ideal.div 1 (k0_pay23 v9 v56 A B C (ix2 a b)) := by
  pointwise [k0_pay24]
theorem pay11_at (v7 v9 v49 : FVec Ideal S1x1024 .f32) (A : Vec Ideal S1x128x256 .fp8e4m3) (B : Vec Ideal S1x1024x256 .fp8e4m3)
    (C : Vec Ideal S128x128 .f32) (a : Fin 128) (t : Fin 1024) :
    k0_pay11 v7 v9 v49 A B C (ix2 a t) = k0_pay21 v9 (k0_pay8 v7 v49) A B C (ix2 a t) := rfl
theorem pay14_at (v7 v9 v49 : FVec Ideal S1x1024 .f32) (A : Vec Ideal S1x128x256 .fp8e4m3) (B : Vec Ideal S1x1024x256 .fp8e4m3)
    (C : Vec Ideal S128x128 .f32) (a b : Fin 128) :
    k0_pay14 v7 v9 v49 A B C (ix2 a b) = k0_pay24 v9 (k0_pay8 v7 v49) A B C (ix2 a b) := rfl

/-- A masked column sum keeps the diagonal entry. -/
theorem pay18_at (v12 : IVec S128x128 1) (M : FVec Ideal S128x128 .f32) (h12 : ∀ a b, v12 (ix2 a b) = if a = b then 1#1 else 0#1) (b : Fin 128) :
    k0_pay18 v12 M (ix2 0 b) = M (ix2 b b) := by
  pointwise [k0_pay18]
  simp only [h12]
  rw [sum_eye fun x => M (ix2 x b)]

theorem diag0_at (v7 v9 v49 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) :
    k0_pay17 v12 (k0_pay15 v7 v9 v49 A B C) k0_pay16 (ix2 0 b) = k0_pay19 v9 (k0_pay8 v7 v49) A B C (ix2 b (row 0 (by decide) b)) := by
  have e : k0_pay19 v9 (k0_pay8 v7 v49) A B C (ix2 b (row 0 (by decide) b)) = k0_pay9 v7 v9 v49 A B C (ix2 b ⟨b.val, by omega⟩) :=
    congrArg (fun x => k0_pay9 v7 v9 v49 A B C (ix2 b x)) (Fin.ext (Nat.zero_add _))
  rw [e]
  pointwise [k0_pay17, k0_pay15, k0_pay16]
  simp only [h12]
  rw [sum_eye fun x => k0_pay9 v7 v9 v49 A B C (ix2 x ⟨b.val, by omega⟩)]
theorem diag1_at (v9 v56 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) :
    k0_pay26 (k0_pay25 v9 v12 v56 A B C) (ix2 0 b) = k0_pay19 v9 v56 A B C (ix2 b (row 1 (by decide) b)) := by
  pointwise [k0_pay26, k0_pay25]
  simp only [h12]
  rw [sum_eye fun x => k0_pay19 v9 v56 A B C (ix2 x ⟨128 + b.val, by omega⟩)]
  rfl
theorem diag2_at (v9 v56 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) :
    k0_pay35 (k0_pay34 v9 v12 v56 A B C) (ix2 0 b) = k0_pay19 v9 v56 A B C (ix2 b (row 2 (by decide) b)) := by
  pointwise [k0_pay35, k0_pay34]
  simp only [h12]
  rw [sum_eye fun x => k0_pay28 v9 v56 A B C (ix2 x ⟨256 + b.val, by omega⟩)]
  rfl
theorem diag3_at (v9 v56 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) :
    k0_pay44 (k0_pay43 v9 v12 v56 A B C) (ix2 0 b) = k0_pay19 v9 v56 A B C (ix2 b (row 3 (by decide) b)) := by
  pointwise [k0_pay44, k0_pay43]
  simp only [h12]
  rw [sum_eye fun x => k0_pay37 v9 v56 A B C (ix2 x ⟨384 + b.val, by omega⟩)]
  rfl
theorem diag4_at (v9 v56 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) :
    k0_pay52 v9 v12 v56 A B C (ix2 0 b) = k0_pay19 v9 v56 A B C (ix2 b (row 4 (by decide) b)) := by
  pointwise [k0_pay52]
  simp only [h12]
  rw [sum_eye fun x => k0_pay46 v9 v56 A B C (ix2 x ⟨512 + b.val, by omega⟩)]
  rfl
theorem diag5_at (v9 v56 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) :
    k0_pay60 v9 v12 v56 A B C (ix2 0 b) = k0_pay19 v9 v56 A B C (ix2 b (row 5 (by decide) b)) := by
  pointwise [k0_pay60]
  simp only [h12]
  rw [sum_eye fun x => k0_pay54 v9 v56 A B C (ix2 x ⟨640 + b.val, by omega⟩)]
  rfl
theorem diag6_at (v9 v56 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) :
    k0_pay68 v9 v12 v56 A B C (ix2 0 b) = k0_pay19 v9 v56 A B C (ix2 b (row 6 (by decide) b)) := by
  pointwise [k0_pay68]
  simp only [h12]
  rw [sum_eye fun x => k0_pay62 v9 v56 A B C (ix2 x ⟨768 + b.val, by omega⟩)]
  rfl
theorem diag7_at (v9 v56 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) :
    k0_pay77 v9 v12 v56 A B C (ix2 0 b) = k0_pay19 v9 v56 A B C (ix2 b (row 7 (by decide) b)) := by
  pointwise [k0_pay77]
  simp only [h12]
  rw [sum_eye fun x => k0_pay71 v9 v56 A B C (ix2 x ⟨896 + b.val, by omega⟩)]
  rfl

theorem pay61_at (v12 : IVec S128x128 1) (M : FVec Ideal S128x128 .f32) (h12 : ∀ a b, v12 (ix2 a b) = if a = b then 1#1 else 0#1) (b : Fin 128) :
    k0_pay61 v12 M (Scalar.ofBits .f32 0x00000000#32 : Ideal .f32) (ix2 0 b) = M (ix2 b b) := by
  pointwise [k0_pay61]
  simp only [h12]
  first | rw [sum_eye fun x => M (ix2 x b)] | (have := sum_eye (fun x => M (ix2 x b)) b; simpa using this)
theorem pay70_at (v12 : IVec S128x128 1) (M : FVec Ideal S128x128 .f32) (h12 : ∀ a b, v12 (ix2 a b) = if a = b then 1#1 else 0#1) (b : Fin 128) :
    k0_pay70 v12 M k0_pay69 (ix2 0 b) = M (ix2 b b) := by
  pointwise [k0_pay70, k0_pay69]
  simp only [h12]
  rw [sum_eye fun x => M (ix2 x b)]
theorem pay78_at (v9 v56 : FVec Ideal S1x1024 .f32) (v12 : IVec S128x128 1) (h12 : ∀ a b, v12 (ix2 a b) = if a = b then 1#1 else 0#1) (A : Vec Ideal S1x128x256 .fp8e4m3) (B : Vec Ideal S1x1024x256 .fp8e4m3)
    (C : Vec Ideal S128x128 .f32) (b : Fin 128) : (∑ x : Fin 128, k0_pay78 v9 v12 v56 A B C (ix2 x b)) = k0_pay23 v9 v56 A B C (ix2 b b) := by
  show _ = k0_pay75 v9 v56 A B C (ix2 b b)
  pointwise [k0_pay78]
  simp only [h12]
  rw [sum_eye fun x => k0_pay75 v9 v56 A B C (ix2 x b)]

/-- Eight blocks of 128 side by side, each the same function's part. -/
theorem ladder8 {α : Type} (v0 v1 v2 v3 v4 v5 v6 v7 : Fin 128 → α) (G : Fin 1024 → α)
    (h0 : ∀ b, v0 b = G (row 0 (by decide) b))
    (h1 : ∀ b, v1 b = G (row 1 (by decide) b))
    (h2 : ∀ b, v2 b = G (row 2 (by decide) b))
    (h3 : ∀ b, v3 b = G (row 3 (by decide) b))
    (h4 : ∀ b, v4 b = G (row 4 (by decide) b))
    (h5 : ∀ b, v5 b = G (row 5 (by decide) b))
    (h6 : ∀ b, v6 b = G (row 6 (by decide) b))
    (h7 : ∀ b, v7 b = G (row 7 (by decide) b)) (x : Fin 1024) :
    (if h : x.val < 128 then v0 ⟨x.val, h⟩
     else if h : x.val - 128 < 128 then v1 ⟨x.val - 128, h⟩
     else if h : x.val - 128 - 128 < 128 then v2 ⟨x.val - 128 - 128, h⟩
     else if h : x.val - 128 - 128 - 128 < 128 then v3 ⟨x.val - 128 - 128 - 128, h⟩
     else if h : x.val - 128 - 128 - 128 - 128 < 128 then v4 ⟨x.val - 128 - 128 - 128 - 128, h⟩
     else if h : x.val - 128 - 128 - 128 - 128 - 128 < 128 then v5 ⟨x.val - 128 - 128 - 128 - 128 - 128, h⟩
     else if h : x.val - 128 - 128 - 128 - 128 - 128 - 128 < 128 then v6 ⟨x.val - 128 - 128 - 128 - 128 - 128 - 128, h⟩
     else v7 ⟨x.val - 128 - 128 - 128 - 128 - 128 - 128 - 128, by omega⟩) = G x := by
  have hx := x.isLt
  split_ifs
  · rw [h0]; exact congrArg G (Fin.ext (by show 128 * 0 + x.val = x.val; omega))
  · rw [h1]; exact congrArg G (Fin.ext (by show 128 * 1 + (x.val - 128) = x.val; omega))
  · rw [h2]; exact congrArg G (Fin.ext (by show 128 * 2 + (x.val - 128 - 128) = x.val; omega))
  · rw [h3]; exact congrArg G (Fin.ext (by show 128 * 3 + (x.val - 128 - 128 - 128) = x.val; omega))
  · rw [h4]; exact congrArg G (Fin.ext (by show 128 * 4 + (x.val - 128 - 128 - 128 - 128) = x.val; omega))
  · rw [h5]; exact congrArg G (Fin.ext (by show 128 * 5 + (x.val - 128 - 128 - 128 - 128 - 128) = x.val; omega))
  · rw [h6]; exact congrArg G (Fin.ext (by show 128 * 6 + (x.val - 128 - 128 - 128 - 128 - 128 - 128) = x.val; omega))
  · rw [h7]; exact congrArg G (Fin.ext (by show 128 * 7 + (x.val - 128 - 128 - 128 - 128 - 128 - 128 - 128) = x.val; omega))

theorem pay82_at (v90 v94 v127 v131 v164 v168 v201 v205 v238 v242 v275 v279 v312 v316 v349 : FVec Ideal S1x128 .f32) (v335 : FVec Ideal S1x1024 .f32) (v351 : FVec Ideal S128x128 .f32)
    (X R : Fin 1024 → EReal)
    (hv90 : ∀ b, v90 (ix2 0 b) = X (row 0 (by decide) b))
    (hv94 : ∀ b, v94 (ix2 0 b) = R (row 0 (by decide) b))
    (hv127 : ∀ b, v127 (ix2 0 b) = X (row 1 (by decide) b))
    (hv131 : ∀ b, v131 (ix2 0 b) = R (row 1 (by decide) b))
    (hv164 : ∀ b, v164 (ix2 0 b) = X (row 2 (by decide) b))
    (hv168 : ∀ b, v168 (ix2 0 b) = R (row 2 (by decide) b))
    (hv201 : ∀ b, v201 (ix2 0 b) = X (row 3 (by decide) b))
    (hv205 : ∀ b, v205 (ix2 0 b) = R (row 3 (by decide) b))
    (hv238 : ∀ b, v238 (ix2 0 b) = X (row 4 (by decide) b))
    (hv242 : ∀ b, v242 (ix2 0 b) = R (row 4 (by decide) b))
    (hv275 : ∀ b, v275 (ix2 0 b) = X (row 5 (by decide) b))
    (hv279 : ∀ b, v279 (ix2 0 b) = R (row 5 (by decide) b))
    (hv312 : ∀ b, v312 (ix2 0 b) = X (row 6 (by decide) b))
    (hv316 : ∀ b, v316 (ix2 0 b) = R (row 6 (by decide) b))
    (hv349 : ∀ b, v349 (ix2 0 b) = X (row 7 (by decide) b))
    (h351 : ∀ b, (∑ x : Fin 128, v351 (ix2 x b)) = R (row 7 (by decide) b)) (t : Fin 1024) :
    k0_pay82 v90 v94 v127 v131 v164 v168 v201 v205 v238 v242 v275 v279 v312 v316 v335 v349 v351 (ix2 0 t)
      = ((Real.log 2 : ℝ) : EReal) * ((Ideal.log (R t) * (((Real.log 2)⁻¹ : ℝ) : EReal) + Ideal.log (v335 (ix2 0 t)) * (((Real.log 2)⁻¹ : ℝ) : EReal)) - 2 * X t) := by
  pointwise [k0_pay82, k0_pay79]
  have hR := ladder8 (fun b => v94 (ix2 0 b)) (fun b => v131 (ix2 0 b)) (fun b => v168 (ix2 0 b)) (fun b => v205 (ix2 0 b)) (fun b => v242 (ix2 0 b)) (fun b => v279 (ix2 0 b)) (fun b => v316 (ix2 0 b)) (fun b => ∑ x : Fin 128, v351 (ix2 x b)) R hv94 hv131 hv168 hv205 hv242 hv279 hv316 h351 t
  have hX := ladder8 (fun b => v90 (ix2 0 b)) (fun b => v127 (ix2 0 b)) (fun b => v164 (ix2 0 b)) (fun b => v201 (ix2 0 b)) (fun b => v238 (ix2 0 b)) (fun b => v275 (ix2 0 b)) (fun b => v312 (ix2 0 b)) (fun b => v349 (ix2 0 b)) X hv90 hv127 hv164 hv201 hv238 hv275 hv312 hv349 t
  beta_reduce at hR hX
  rw [hR, hX, ofBits_two]
  rfl

theorem pay6_at (v1 : Vec Ideal S1x1024 .f32) (r : Fin 1024) (b : Fin 128) : k0_pay6 v1 (ix2 r b) = v1 (ix2 0 r) := by
  pointwise [k0_pay6]
  have hl : ∀ x, _ = _ := ladder8 (fun b => v1 (ix2 0 ⟨b.val, by omega⟩)) (fun b => v1 (ix2 0 ⟨128 + b.val, by omega⟩)) (fun b => v1 (ix2 0 ⟨256 + b.val, by omega⟩)) (fun b => v1 (ix2 0 ⟨384 + b.val, by omega⟩)) (fun b => v1 (ix2 0 ⟨512 + b.val, by omega⟩)) (fun b => v1 (ix2 0 ⟨640 + b.val, by omega⟩)) (fun b => v1 (ix2 0 ⟨768 + b.val, by omega⟩)) (fun b => v1 (ix2 0 ⟨896 + b.val, by omega⟩)) (fun r => v1 (ix2 0 r)) (fun b => congrArg (fun r => v1 (ix2 0 r)) (Fin.ext (Nat.zero_add _).symm)) (fun _ => rfl) (fun _ => rfl) (fun _ => rfl) (fun _ => rfl) (fun _ => rfl) (fun _ => rfl) (fun _ => rfl)
  exact hl r

theorem pay101_at (v406 : Vec Ideal S1x1024 .f32) (v425 : Vec Ideal S128x128 .f32) (a : Fin 128) (t : Fin 1024) :
   k0_pay101 v406 v425 (ix2 a t) = v425 (ix2 a (lane t)) + v406 (ix2 0 t) := by
  pointwise [k0_pay101]
  have hl : ∀ x, _ = _ := ladder fun i => v425 (ix2 a i)
  beta_reduce at hl
  rw [hl]
theorem pay99_at (v12 : IVec S128x128 1) (h12 : ∀ a b, v12 (ix2 a b) = if a = b then 1#1 else 0#1) (a b : Fin 128) :
    k0_pay99 (F := Ideal) v12 (ix2 a b) = if a = b then 2 else 0 := by
  pointwise [k0_pay99]
  rw [h12, ofBits_two]
  by_cases h : a = b <;> simp [h, Scalar.select]

/-- A band of 128 columns of a row, with twice the identity taken off it. -/
theorem band (o : ℕ) (ho : o + 128 < 1024) (y : Fin 1024 → EReal) (m : Fin 128 → EReal) (a : Fin 128) (hm : ∀ b, m b = if a = b then 2 else 0) (t : Fin 1024) :
    (if h : t.val < o then y t else if h : t.val - o < 128 then y ⟨o + (t.val - o), by omega⟩ - m ⟨t.val - o, h⟩ else y ⟨o + 128 + (t.val - o - 128), by omega⟩)
      = y t - if o + a.val = t.val then 2 else 0 := by
  have ht := t.isLt
  by_cases h1 : t.val < o
  · rw [dif_pos h1, if_neg (by omega), sub_zero]
  · rw [dif_neg h1]
    have e1 : (⟨o + (t.val - o), by omega⟩ : Fin 1024) = t := Fin.ext (by show o + (t.val - o) = t.val; omega)
    by_cases h2 : t.val - o < 128
    · rw [dif_pos h2, hm, e1]
      by_cases h3 : o + a.val = t.val
      · rw [if_pos h3, if_pos (Fin.ext (by show a.val = t.val - o; omega))]
      · rw [if_neg h3, if_neg (fun h => h3 (by rw [h]; show o + (t.val - o) = t.val; omega))]
    · have e2 : (⟨o + 128 + (t.val - o - 128), by omega⟩ : Fin 1024) = t := Fin.ext (by show o + 128 + (t.val - o - 128) = t.val; omega)
      rw [dif_neg h2, e2, if_neg (by omega), sub_zero]
theorem band0 (y : Fin 1024 → EReal) (m : Fin 128 → EReal) (a : Fin 128) (hm : ∀ b, m b = if a = b then 2 else 0) (t : Fin 1024) :
    (if h : t.val < 128 then y t - m ⟨t.val, h⟩ else y ⟨128 + (t.val - 128), by omega⟩)
      = y t - if a.val = t.val then 2 else 0 := by
  have ht := t.isLt
  by_cases h2 : t.val < 128
  · rw [dif_pos h2, hm]
    by_cases h3 : a.val = t.val
    · rw [if_pos h3, if_pos (Fin.ext h3)]
    · rw [if_neg h3, if_neg (fun h => h3 (by rw [h]))]
  · have e2 : (⟨128 + (t.val - 128), by omega⟩ : Fin 1024) = t := Fin.ext (by show 128 + (t.val - 128) = t.val; omega)
    rw [dif_neg h2, e2, if_neg (by omega), sub_zero]
theorem band7 (y : Fin 1024 → EReal) (m : Fin 128 → EReal) (a : Fin 128) (hm : ∀ b, m b = if a = b then 2 else 0) (t : Fin 1024) :
    (if h : t.val < 896 then y t else y ⟨896 + (t.val - 896), by omega⟩ - m ⟨t.val - 896, by omega⟩)
      = y t - if 896 + a.val = t.val then 2 else 0 := by
  have ht := t.isLt
  by_cases h1 : t.val < 896
  · rw [dif_pos h1, if_neg (by omega), sub_zero]
  · rw [dif_neg h1, hm]
    have e1 : (⟨896 + (t.val - 896), by omega⟩ : Fin 1024) = t := Fin.ext (by show 896 + (t.val - 896) = t.val; omega)
    rw [e1]
    by_cases h3 : 896 + a.val = t.val
    · rw [if_pos h3, if_pos (Fin.ext (by show a.val = t.val - 896; omega))]
    · rw [if_neg h3, if_neg (fun h => h3 (by rw [h]; show 896 + (t.val - 896) = t.val; omega))]

theorem pay102_at (v409 : FVec Ideal S128x128 .f32) (v424 v428 : FVec Ideal S128x1024 .f32) (h9 : ∀ a b, v409 (ix2 a b) = if a = b then 2 else 0) (a : Fin 128) (t : Fin 1024) :
    k0_pay102 v409 v424 v428 (ix2 a t) = v424 (ix2 a t) * (v428 (ix2 a t)) - if 128 + a.val = t.val then 2 else 0 := by
  pointwise [k0_pay102]
  exact band 128 (by decide) (fun t => v424 (ix2 a t) * v428 (ix2 a t)) (fun b => v409 (ix2 a b)) a (fun b => h9 a b) t
theorem pay100_at (v12 : IVec S128x128 1) (h12 : ∀ a b, v12 (ix2 a b) = if a = b then 1#1 else 0#1) (v406 : Vec Ideal S1x1024 .f32) (v410 : Vec Ideal S128x1024 .f32) (v411 : Vec Ideal S128x128 .f32) (a : Fin 128) (t : Fin 1024) :
    k0_pay100 v12 v406 v410 v411 (ix2 a t) = v410 (ix2 a t) * (k0_pay101 v406 v411 (ix2 a t)) - if 0 + a.val = t.val then 2 else 0 := by
  have h101 := k0_pay101.eq_1 v406 v411
  have h9 := pay99_at v12 h12
  unfold k0_pay100
  rw [← h101]
  generalize k0_pay101 v406 v411 = w
  generalize k0_pay99 (F := Ideal) v12 = v409 at h9
  rw [Nat.zero_add]
  pointwise []
  exact band0 (fun t => v410 (ix2 a t) * w (ix2 a t)) (fun b => v409 (ix2 a b)) a (fun b => h9 a b) t
theorem pay103_at (v406 : Vec Ideal S1x1024 .f32) (v409 : FVec Ideal S128x128 .f32) (v410 : Vec Ideal S128x1024 .f32) (v411 : Vec Ideal S128x128 .f32) (h9 : ∀ a b, v409 (ix2 a b) = if a = b then 2 else 0) (a : Fin 128) (t : Fin 1024) :
    k0_pay103 v406 v409 v410 v411 (ix2 a t) = v410 (ix2 a t) * (k0_pay101 v406 v411 (ix2 a t)) - if 256 + a.val = t.val then 2 else 0 := by
  have h101 := k0_pay101.eq_1 v406 v411
  unfold k0_pay103
  rw [← h101]
  generalize k0_pay101 v406 v411 = w
  pointwise []
  exact band 256 (by decide) (fun t => v410 (ix2 a t) * w (ix2 a t)) (fun b => v409 (ix2 a b)) a (fun b => h9 a b) t
theorem pay104_at (v406 : Vec Ideal S1x1024 .f32) (v409 : FVec Ideal S128x128 .f32) (v410 : Vec Ideal S128x1024 .f32) (v411 : Vec Ideal S128x128 .f32) (h9 : ∀ a b, v409 (ix2 a b) = if a = b then 2 else 0) (a : Fin 128) (t : Fin 1024) :
    k0_pay104 v406 v409 v410 v411 (ix2 a t) = v410 (ix2 a t) * (k0_pay101 v406 v411 (ix2 a t)) - if 384 + a.val = t.val then 2 else 0 := by
  have h101 := k0_pay101.eq_1 v406 v411
  unfold k0_pay104
  rw [← h101]
  generalize k0_pay101 v406 v411 = w
  pointwise []
  exact band 384 (by decide) (fun t => v410 (ix2 a t) * w (ix2 a t)) (fun b => v409 (ix2 a b)) a (fun b => h9 a b) t
theorem pay105_at (v406 : Vec Ideal S1x1024 .f32) (v409 : FVec Ideal S128x128 .f32) (v410 : Vec Ideal S128x1024 .f32) (v411 : Vec Ideal S128x128 .f32) (h9 : ∀ a b, v409 (ix2 a b) = if a = b then 2 else 0) (a : Fin 128) (t : Fin 1024) :
    k0_pay105 v406 v409 v410 v411 (ix2 a t) = v410 (ix2 a t) * (k0_pay101 v406 v411 (ix2 a t)) - if 512 + a.val = t.val then 2 else 0 := by
  have h101 := k0_pay101.eq_1 v406 v411
  unfold k0_pay105
  rw [← h101]
  generalize k0_pay101 v406 v411 = w
  pointwise []
  exact band 512 (by decide) (fun t => v410 (ix2 a t) * w (ix2 a t)) (fun b => v409 (ix2 a b)) a (fun b => h9 a b) t
theorem pay106_at (v406 : Vec Ideal S1x1024 .f32) (v409 : FVec Ideal S128x128 .f32) (v410 : Vec Ideal S128x1024 .f32) (v411 : Vec Ideal S128x128 .f32) (h9 : ∀ a b, v409 (ix2 a b) = if a = b then 2 else 0) (a : Fin 128) (t : Fin 1024) :
    k0_pay106 v406 v409 v410 v411 (ix2 a t) = v410 (ix2 a t) * (k0_pay101 v406 v411 (ix2 a t)) - if 640 + a.val = t.val then 2 else 0 := by
  have h101 := k0_pay101.eq_1 v406 v411
  unfold k0_pay106
  rw [← h101]
  generalize k0_pay101 v406 v411 = w
  pointwise []
  exact band 640 (by decide) (fun t => v410 (ix2 a t) * w (ix2 a t)) (fun b => v409 (ix2 a b)) a (fun b => h9 a b) t
theorem pay107_at (v406 : Vec Ideal S1x1024 .f32) (v409 : FVec Ideal S128x128 .f32) (v410 : Vec Ideal S128x1024 .f32) (v411 : Vec Ideal S128x128 .f32) (h9 : ∀ a b, v409 (ix2 a b) = if a = b then 2 else 0) (a : Fin 128) (t : Fin 1024) :
    k0_pay107 v406 v409 v410 v411 (ix2 a t) = v410 (ix2 a t) * (k0_pay101 v406 v411 (ix2 a t)) - if 768 + a.val = t.val then 2 else 0 := by
  have h101 := k0_pay101.eq_1 v406 v411
  unfold k0_pay107
  rw [← h101]
  generalize k0_pay101 v406 v411 = w
  pointwise []
  exact band 768 (by decide) (fun t => v410 (ix2 a t) * w (ix2 a t)) (fun b => v409 (ix2 a b)) a (fun b => h9 a b) t
theorem pay109_at (v406 : Vec Ideal S1x1024 .f32) (v409 : FVec Ideal S128x128 .f32) (v410 : Vec Ideal S128x1024 .f32) (v411 : Vec Ideal S128x128 .f32) (h9 : ∀ a b, v409 (ix2 a b) = if a = b then 2 else 0) (a : Fin 128) (t : Fin 1024) :
    k0_pay109 v406 v409 v410 v411 (ix2 a t) = v410 (ix2 a t) * (k0_pay101 v406 v411 (ix2 a t)) - if 896 + a.val = t.val then 2 else 0 := by
  have h101 := k0_pay101.eq_1 v406 v411
  unfold k0_pay109
  rw [← h101]
  generalize k0_pay101 v406 v411 = w
  pointwise []
  exact band7 (fun t => v410 (ix2 a t) * w (ix2 a t)) (fun b => v409 (ix2 a b)) a (fun b => h9 a b) t
theorem pay108_at (v : FVec Ideal S128x1024 .bf16) (a : Fin 128) (t : Fin 1024) : k0_pay108 v (ix2 a t) = v (ix2 a t) := by
  pointwise [k0_pay108]

theorem half (f : Fin 128 → EReal) (d : Fin 256) (z : EReal) (h : ∀ b, f b = z) :
    (if h : d.val < 128 then f ⟨d.val, h⟩ else f ⟨d.val - 128, by omega⟩) = z := by
  split_ifs <;> exact h _

theorem pay120_at (v567 : Vec Ideal S1x1024x256 .fp8e4m3) (v570 : Vec Ideal S1024x128 .f32) (v574 : Vec Ideal S1024x1024 .bf16) (u : Fin 1024 → EReal)
    (hu : ∀ r b, v570 (ix2 r b) = u r) (t : Fin 1024) (d : Fin 256) :
    k0_pay120 v567 v570 v574 (ix3 0 t d) = (∑ r : Fin 1024, v574 (ix2 r t) * (v567 (ix3 0 r d) * u r)) * 20 := by
  pointwise [k0_pay120]
  simp only [hu, ofBits_twenty]
  simp only [dite_eq_ite, ite_self]
theorem pay119_at (v528 : Vec Ideal S1x1024x256 .fp8e4m3) (v3 : Vec Ideal S1x1024 .f32) (v574 : Vec Ideal S1024x1024 .bf16) (r : Fin 1024) (d : Fin 256) :
    k0_pay119 (k0_pay110 v528) (k0_pay111 v3) (k0_pay112 v3) (k0_pay113 v3) (k0_pay114 v3) (k0_pay115 v3) (k0_pay116 v3) (k0_pay117 v3) (k0_pay118 v3) v574 (ix3 0 r d)
      = (∑ t : Fin 1024, v574 (ix2 r t) * (v528 (ix3 0 t d) * v3 (ix2 0 t))) * 20 := by
  pointwise [k0_pay119, k0_pay110, k0_pay111, k0_pay112, k0_pay113, k0_pay114, k0_pay115, k0_pay116, k0_pay117, k0_pay118]
  have hl : ∀ x, _ = _ := ladder8 (fun b => v3 (ix2 0 ⟨b.val, by omega⟩)) (fun b => v3 (ix2 0 ⟨128 + b.val, by omega⟩)) (fun b => v3 (ix2 0 ⟨256 + b.val, by omega⟩)) (fun b => v3 (ix2 0 ⟨384 + b.val, by omega⟩)) (fun b => v3 (ix2 0 ⟨512 + b.val, by omega⟩)) (fun b => v3 (ix2 0 ⟨640 + b.val, by omega⟩)) (fun b => v3 (ix2 0 ⟨768 + b.val, by omega⟩)) (fun b => v3 (ix2 0 ⟨896 + b.val, by omega⟩)) (fun r => v3 (ix2 0 r)) (fun b => congrArg (fun r => v3 (ix2 0 r)) (Fin.ext (Nat.zero_add _).symm)) (fun _ => rfl) (fun _ => rfl) (fun _ => rfl) (fun _ => rfl) (fun _ => rfl) (fun _ => rfl) (fun _ => rfl)
  beta_reduce at hl
  simp only [hl, ofBits_twenty, dite_eq_ite, ite_self]

end Cert.KernelIdeal.Hand

end
-- ==== Proof.KernelIdealFastVals.lean ====
/- The direct path's stores of one group, read back: the exponentials, the sums' reciprocals and the loss row. -/
module

public import proofs.«01_k».proof.Proof.KernelIdealFastPays
public import proofs.«01_k».proof.Proof.RowReads
public import proofs.«01_k».proof.Proof.Group

@[expose] public section

set_option maxRecDepth 16384

noncomputable section

namespace Cert.KernelIdeal.Hand

open Idealize.ShloMosaic Cert.KernelIdeal.Gen Cert.Chunks Cert.RowReads Cert.Group

theorem pay19_X (I : Inp) (k : ℕ) (hk : k < 8) (v9 v56 : FVec Ideal S1x1024 .f32) (A : Vec Ideal S1x128x256 .fp8e4m3) (B : Vec Ideal S1x1024x256 .fp8e4m3) (C : Vec Ideal S128x128 .f32)
    (hA : ∀ a d, A (ix3 0 a d) = I.uc (row k hk a) d) (hB : ∀ t d, B (ix3 0 t d) = I.vc t d)
    (hC : ∀ a b, C (ix2 a b) = I.us (row k hk a)) (h9 : ∀ t, v9 (ix2 0 t) = I.vs t * κ20) (h56 : ∀ t, v56 (ix2 0 t) = I.q t + I.shift) (a : Fin 128) (t : Fin 1024) :
    k0_pay19 v9 v56 A B C (ix2 a t) = I.X (row k hk a) t := by
  rw [pay19_at]
  simp only [hA, hB, hC, h9, h56]
  rw [mul_assoc]
  rfl
theorem pay21_X (I : Inp) (k : ℕ) (hk : k < 8) (v9 v56 : FVec Ideal S1x1024 .f32) (A : Vec Ideal S1x128x256 .fp8e4m3) (B : Vec Ideal S1x1024x256 .fp8e4m3) (C : Vec Ideal S128x128 .f32)
    (hA : ∀ a d, A (ix3 0 a d) = I.uc (row k hk a) d) (hB : ∀ t d, B (ix3 0 t d) = I.vc t d)
    (hC : ∀ a b, C (ix2 a b) = I.us (row k hk a)) (h9 : ∀ t, v9 (ix2 0 t) = I.vs t * κ20) (h56 : ∀ t, v56 (ix2 0 t) = I.q t + I.shift) (a : Fin 128) (t : Fin 1024) :
    k0_pay21 v9 v56 A B C (ix2 a t) = Ideal.exp2 (I.X (row k hk a) t) := by
  rw [pay21_at, pay19_X I k hk v9 v56 A B C hA hB hC h9 h56]
theorem pay23_X (I : Inp) (k : ℕ) (hk : k < 8) (v9 v56 : FVec Ideal S1x1024 .f32) (A : Vec Ideal S1x128x256 .fp8e4m3) (B : Vec Ideal S1x1024x256 .fp8e4m3) (C : Vec Ideal S128x128 .f32)
    (hA : ∀ a d, A (ix3 0 a d) = I.uc (row k hk a) d) (hB : ∀ t d, B (ix3 0 t d) = I.vc t d)
    (hC : ∀ a b, C (ix2 a b) = I.us (row k hk a)) (h9 : ∀ t, v9 (ix2 0 t) = I.vs t * κ20) (h56 : ∀ t, v56 (ix2 0 t) = I.q t + I.shift) (a b : Fin 128) :
    k0_pay23 v9 v56 A B C (ix2 a b) = rowSum I.X (row k hk a) := by
  rw [pay23_at]
  exact Finset.sum_congr rfl fun t _ => by rw [pay19_X I k hk v9 v56 A B C hA hB hC h9 h56]
theorem pay24_X (I : Inp) (k : ℕ) (hk : k < 8) (v9 v56 : FVec Ideal S1x1024 .f32) (A : Vec Ideal S1x128x256 .fp8e4m3) (B : Vec Ideal S1x1024x256 .fp8e4m3) (C : Vec Ideal S128x128 .f32)
    (hA : ∀ a d, A (ix3 0 a d) = I.uc (row k hk a) d) (hB : ∀ t d, B (ix3 0 t d) = I.vc t d)
    (hC : ∀ a b, C (ix2 a b) = I.us (row k hk a)) (h9 : ∀ t, v9 (ix2 0 t) = I.vs t * κ20) (h56 : ∀ t, v56 (ix2 0 t) = I.q t + I.shift) (a b : Fin 128) :
    k0_pay24 v9 v56 A B C (ix2 a b) = Ideal.div 1 (rowSum I.X (row k hk a)) := by
  rw [pay24_at, pay23_X I k hk v9 v56 A B C hA hB hC h9 h56]
theorem pay22_X (I : Inp) (k : ℕ) (hk : k < 8) (v9 v56 : FVec Ideal S1x1024 .f32) (A : Vec Ideal S1x128x256 .fp8e4m3) (B : Vec Ideal S1x1024x256 .fp8e4m3) (C : Vec Ideal S128x128 .f32)
    (hA : ∀ a d, A (ix3 0 a d) = I.uc (row k hk a) d) (hB : ∀ t d, B (ix3 0 t d) = I.vc t d)
    (hC : ∀ a b, C (ix2 a b) = I.us (row k hk a)) (h9 : ∀ t, v9 (ix2 0 t) = I.vs t * κ20) (h56 : ∀ t, v56 (ix2 0 t) = I.q t + I.shift) (v76 : FVec Ideal S1x1024 .f32) (h : ∀ t, v76 (ix2 0 t) = ∑ r ∈ upTo k, Ideal.exp2 (I.X r t)) (t : Fin 1024) :
    k0_pay22 v9 v56 v76 A B C (ix2 0 t) = ∑ r ∈ upTo (k + 1), Ideal.exp2 (I.X r t) := by
  rw [pay22_at, h, sum_succ _ k hk]
  exact congrArg _ (Finset.sum_congr rfl fun a _ => by rw [pay19_X I k hk v9 v56 A B C hA hB hC h9 h56])

section
variable {sig : RefSig} {κ : Kind} {sp : Space} {e : EltTy} {Val : EltTy → Type}

/-- Eight blocks of rows stored one below the other. -/
theorem rows8 {N : Nat} (v : View sig κ sp ⟨2, ![1024, N]⟩ e) (f : v.ty.Contents Val) (G : Fin 1024 → Fin N → Val e)
    (inb0 : ∀ a, (![0, 0] : Fin 2 → ℕ) a + (![128, N] : Fin 2 → ℕ) a ≤ (![1024, N] : Fin 2 → ℕ) a) (w0 : (⟨2, ![128, N]⟩ : Shape).Idx → Val e) (h0 : ∀ a t, w0 (ix2 a t) = G (row 0 (by decide) a) t)
    (inb1 : ∀ a, (![128, 0] : Fin 2 → ℕ) a + (![128, N] : Fin 2 → ℕ) a ≤ (![1024, N] : Fin 2 → ℕ) a) (w1 : (⟨2, ![128, N]⟩ : Shape).Idx → Val e) (h1 : ∀ a t, w1 (ix2 a t) = G (row 1 (by decide) a) t)
    (inb2 : ∀ a, (![256, 0] : Fin 2 → ℕ) a + (![128, N] : Fin 2 → ℕ) a ≤ (![1024, N] : Fin 2 → ℕ) a) (w2 : (⟨2, ![128, N]⟩ : Shape).Idx → Val e) (h2 : ∀ a t, w2 (ix2 a t) = G (row 2 (by decide) a) t)
    (inb3 : ∀ a, (![384, 0] : Fin 2 → ℕ) a + (![128, N] : Fin 2 → ℕ) a ≤ (![1024, N] : Fin 2 → ℕ) a) (w3 : (⟨2, ![128, N]⟩ : Shape).Idx → Val e) (h3 : ∀ a t, w3 (ix2 a t) = G (row 3 (by decide) a) t)
    (inb4 : ∀ a, (![512, 0] : Fin 2 → ℕ) a + (![128, N] : Fin 2 → ℕ) a ≤ (![1024, N] : Fin 2 → ℕ) a) (w4 : (⟨2, ![128, N]⟩ : Shape).Idx → Val e) (h4 : ∀ a t, w4 (ix2 a t) = G (row 4 (by decide) a) t)
    (inb5 : ∀ a, (![640, 0] : Fin 2 → ℕ) a + (![128, N] : Fin 2 → ℕ) a ≤ (![1024, N] : Fin 2 → ℕ) a) (w5 : (⟨2, ![128, N]⟩ : Shape).Idx → Val e) (h5 : ∀ a t, w5 (ix2 a t) = G (row 5 (by decide) a) t)
    (inb6 : ∀ a, (![768, 0] : Fin 2 → ℕ) a + (![128, N] : Fin 2 → ℕ) a ≤ (![1024, N] : Fin 2 → ℕ) a) (w6 : (⟨2, ![128, N]⟩ : Shape).Idx → Val e) (h6 : ∀ a t, w6 (ix2 a t) = G (row 6 (by decide) a) t)
    (inb7 : ∀ a, (![896, 0] : Fin 2 → ℕ) a + (![128, N] : Fin 2 → ℕ) a ≤ (![1024, N] : Fin 2 → ℕ) a) (w7 : (⟨2, ![128, N]⟩ : Shape).Idx → Val e) (h7 : ∀ a t, w7 (ix2 a t) = G (row 7 (by decide) a) t)
    (r : Fin 1024) (t : Fin N) :
    v.read Val (v.writes Val f [⟨Rect.unit (s := ⟨2, ![1024, N]⟩) ![896, 0] ![128, N] inb7, w7⟩, ⟨Rect.unit (s := ⟨2, ![1024, N]⟩) ![768, 0] ![128, N] inb6, w6⟩, ⟨Rect.unit (s := ⟨2, ![1024, N]⟩) ![640, 0] ![128, N] inb5, w5⟩, ⟨Rect.unit (s := ⟨2, ![1024, N]⟩) ![512, 0] ![128, N] inb4, w4⟩, ⟨Rect.unit (s := ⟨2, ![1024, N]⟩) ![384, 0] ![128, N] inb3, w3⟩, ⟨Rect.unit (s := ⟨2, ![1024, N]⟩) ![256, 0] ![128, N] inb2, w2⟩, ⟨Rect.unit (s := ⟨2, ![1024, N]⟩) ![128, 0] ![128, N] inb1, w1⟩, ⟨Rect.unit (s := ⟨2, ![1024, N]⟩) ![0, 0] ![128, N] inb0, w0⟩]) (ix2 r t) = G r t := by
  have s0 := rows_step v f 0 (by decide) inb0 rfl w0 G (fun r t => v.read Val f (ix2 r t)) (fun r t => (if_neg (Nat.not_lt_zero _)).symm) h0
  have s1 := rows_step v _ 1 (by decide) inb1 rfl w1 G (fun r t => v.read Val f (ix2 r t)) s0 h1
  have s2 := rows_step v _ 2 (by decide) inb2 rfl w2 G (fun r t => v.read Val f (ix2 r t)) s1 h2
  have s3 := rows_step v _ 3 (by decide) inb3 rfl w3 G (fun r t => v.read Val f (ix2 r t)) s2 h3
  have s4 := rows_step v _ 4 (by decide) inb4 rfl w4 G (fun r t => v.read Val f (ix2 r t)) s3 h4
  have s5 := rows_step v _ 5 (by decide) inb5 rfl w5 G (fun r t => v.read Val f (ix2 r t)) s4 h5
  have s6 := rows_step v _ 6 (by decide) inb6 rfl w6 G (fun r t => v.read Val f (ix2 r t)) s5 h6
  have s7 := rows_step v _ 7 (by decide) inb7 rfl w7 G (fun r t => v.read Val f (ix2 r t)) s6 h7
  exact (s7 r t).trans (if_pos (by have := r.isLt; omega))
end

theorem shift_at (I : Inp) (v7 : FVec Ideal S1x1024 .f32) (h7 : ∀ t, v7 (ix2 0 t) = I.q t) (t : Fin 1024) : k0_pay8 v7 k0_pay7 (ix2 0 t) = I.q t + I.shift := by
  rw [pay8_at]
  simp only [h7]
  rfl
theorem whole5 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) (d : Fin 256) : (View.readAt (Elt Ideal) arg5.view (Rect.unit (s := S1x1024x256) ![0, 0, 0] S1x1024x256.size inb_S1x1024x256_S1x1024x256_0_0_0).toLoadRect X5) (ix3 0 t d) = I.vc t d :=
  (readAt3 arg5.view X5 0 0 0 _ rfl 0 t d 0 t d rfl (Nat.zero_add _).symm (Nat.zero_add _).symm).trans (h5 t d)
theorem hA0 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a : Fin 128) (d : Fin 256) : (View.readAt (Elt Ideal) arg4.view (Rect.unit (s := S1x1024x256) ![0, 0, 0] S1x128x256.size inb_S1x1024x256_S1x128x256_0_0_0).toLoadRect X4) (ix3 0 a d) = I.uc (row 0 (by decide) a) d :=
  (readAt3 arg4.view X4 0 0 0 _ rfl 0 a d 0 (row 0 (by decide) a) d rfl rfl (Nat.zero_add _).symm).trans (h4 _ d)
theorem hC0 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a b : Fin 128) : (View.readAt (Elt Ideal) arg12.view (Rect.unit (s := S1024x128) ![0, 0] S128x128.size inb_S1024x128_S128x128_0_0).toLoadRect X12) (ix2 a b) = I.us (row 0 (by decide) a) :=
  (readAt2 arg12.view X12 0 0 _ rfl a b (row 0 (by decide) a) b rfl (Nat.zero_add _).symm).trans (hX12 _ b)
theorem hA1 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a : Fin 128) (d : Fin 256) : (View.readAt (Elt Ideal) arg4.view (Rect.unit (s := S1x1024x256) ![0, 128, 0] S1x128x256.size inb_S1x1024x256_S1x128x256_0_128_0).toLoadRect X4) (ix3 0 a d) = I.uc (row 1 (by decide) a) d :=
  (readAt3 arg4.view X4 0 128 0 _ rfl 0 a d 0 (row 1 (by decide) a) d rfl rfl (Nat.zero_add _).symm).trans (h4 _ d)
theorem hC1 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a b : Fin 128) : (View.readAt (Elt Ideal) arg12.view (Rect.unit (s := S1024x128) ![128, 0] S128x128.size inb_S1024x128_S128x128_128_0).toLoadRect X12) (ix2 a b) = I.us (row 1 (by decide) a) :=
  (readAt2 arg12.view X12 128 0 _ rfl a b (row 1 (by decide) a) b rfl (Nat.zero_add _).symm).trans (hX12 _ b)
theorem hA2 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a : Fin 128) (d : Fin 256) : (View.readAt (Elt Ideal) arg4.view (Rect.unit (s := S1x1024x256) ![0, 256, 0] S1x128x256.size inb_S1x1024x256_S1x128x256_0_256_0).toLoadRect X4) (ix3 0 a d) = I.uc (row 2 (by decide) a) d :=
  (readAt3 arg4.view X4 0 256 0 _ rfl 0 a d 0 (row 2 (by decide) a) d rfl rfl (Nat.zero_add _).symm).trans (h4 _ d)
theorem hC2 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a b : Fin 128) : (View.readAt (Elt Ideal) arg12.view (Rect.unit (s := S1024x128) ![256, 0] S128x128.size inb_S1024x128_S128x128_256_0).toLoadRect X12) (ix2 a b) = I.us (row 2 (by decide) a) :=
  (readAt2 arg12.view X12 256 0 _ rfl a b (row 2 (by decide) a) b rfl (Nat.zero_add _).symm).trans (hX12 _ b)
theorem hA3 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a : Fin 128) (d : Fin 256) : (View.readAt (Elt Ideal) arg4.view (Rect.unit (s := S1x1024x256) ![0, 384, 0] S1x128x256.size inb_S1x1024x256_S1x128x256_0_384_0).toLoadRect X4) (ix3 0 a d) = I.uc (row 3 (by decide) a) d :=
  (readAt3 arg4.view X4 0 384 0 _ rfl 0 a d 0 (row 3 (by decide) a) d rfl rfl (Nat.zero_add _).symm).trans (h4 _ d)
theorem hC3 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a b : Fin 128) : (View.readAt (Elt Ideal) arg12.view (Rect.unit (s := S1024x128) ![384, 0] S128x128.size inb_S1024x128_S128x128_384_0).toLoadRect X12) (ix2 a b) = I.us (row 3 (by decide) a) :=
  (readAt2 arg12.view X12 384 0 _ rfl a b (row 3 (by decide) a) b rfl (Nat.zero_add _).symm).trans (hX12 _ b)
theorem hA4 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a : Fin 128) (d : Fin 256) : (View.readAt (Elt Ideal) arg4.view (Rect.unit (s := S1x1024x256) ![0, 512, 0] S1x128x256.size inb_S1x1024x256_S1x128x256_0_512_0).toLoadRect X4) (ix3 0 a d) = I.uc (row 4 (by decide) a) d :=
  (readAt3 arg4.view X4 0 512 0 _ rfl 0 a d 0 (row 4 (by decide) a) d rfl rfl (Nat.zero_add _).symm).trans (h4 _ d)
theorem hC4 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a b : Fin 128) : (View.readAt (Elt Ideal) arg12.view (Rect.unit (s := S1024x128) ![512, 0] S128x128.size inb_S1024x128_S128x128_512_0).toLoadRect X12) (ix2 a b) = I.us (row 4 (by decide) a) :=
  (readAt2 arg12.view X12 512 0 _ rfl a b (row 4 (by decide) a) b rfl (Nat.zero_add _).symm).trans (hX12 _ b)
theorem hA5 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a : Fin 128) (d : Fin 256) : (View.readAt (Elt Ideal) arg4.view (Rect.unit (s := S1x1024x256) ![0, 640, 0] S1x128x256.size inb_S1x1024x256_S1x128x256_0_640_0).toLoadRect X4) (ix3 0 a d) = I.uc (row 5 (by decide) a) d :=
  (readAt3 arg4.view X4 0 640 0 _ rfl 0 a d 0 (row 5 (by decide) a) d rfl rfl (Nat.zero_add _).symm).trans (h4 _ d)
theorem hC5 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a b : Fin 128) : (View.readAt (Elt Ideal) arg12.view (Rect.unit (s := S1024x128) ![640, 0] S128x128.size inb_S1024x128_S128x128_640_0).toLoadRect X12) (ix2 a b) = I.us (row 5 (by decide) a) :=
  (readAt2 arg12.view X12 640 0 _ rfl a b (row 5 (by decide) a) b rfl (Nat.zero_add _).symm).trans (hX12 _ b)
theorem hA6 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a : Fin 128) (d : Fin 256) : (View.readAt (Elt Ideal) arg4.view (Rect.unit (s := S1x1024x256) ![0, 768, 0] S1x128x256.size inb_S1x1024x256_S1x128x256_0_768_0).toLoadRect X4) (ix3 0 a d) = I.uc (row 6 (by decide) a) d :=
  (readAt3 arg4.view X4 0 768 0 _ rfl 0 a d 0 (row 6 (by decide) a) d rfl rfl (Nat.zero_add _).symm).trans (h4 _ d)
theorem hC6 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a b : Fin 128) : (View.readAt (Elt Ideal) arg12.view (Rect.unit (s := S1024x128) ![768, 0] S128x128.size inb_S1024x128_S128x128_768_0).toLoadRect X12) (ix2 a b) = I.us (row 6 (by decide) a) :=
  (readAt2 arg12.view X12 768 0 _ rfl a b (row 6 (by decide) a) b rfl (Nat.zero_add _).symm).trans (hX12 _ b)
theorem hA7 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a : Fin 128) (d : Fin 256) : (View.readAt (Elt Ideal) arg4.view (Rect.unit (s := S1x1024x256) ![0, 896, 0] S1x128x256.size inb_S1x1024x256_S1x128x256_0_896_0).toLoadRect X4) (ix3 0 a d) = I.uc (row 7 (by decide) a) d :=
  (readAt3 arg4.view X4 0 896 0 _ rfl 0 a d 0 (row 7 (by decide) a) d rfl rfl (Nat.zero_add _).symm).trans (h4 _ d)
theorem hC7 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (a b : Fin 128) : (View.readAt (Elt Ideal) arg12.view (Rect.unit (s := S1024x128) ![896, 0] S128x128.size inb_S1024x128_S128x128_896_0).toLoadRect X12) (ix2 a b) = I.us (row 7 (by decide) a) :=
  (readAt2 arg12.view X12 896 0 _ rfl a b (row 7 (by decide) a) b rfl (Nat.zero_add _).symm).trans (hX12 _ b)
set_option maxHeartbeats 1000000 in
theorem fast9 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (arg9 : Memref sig .tc .vmem S1024x1024 .f32) (f9 : BufTy.Contents (Elt Ideal) arg9.view.ty) (r t : Fin 1024) :
    arg9.view.read (Elt Ideal) (arg9.view.writes (Elt Ideal) f9 [⟨Rect.unit (s := S1024x1024) ![896, 0] S128x1024.size inb_S1024x1024_S128x1024_896_0, (k0_pay73 v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12))⟩, ⟨Rect.unit (s := S1024x1024) ![768, 0] S128x1024.size inb_S1024x1024_S128x1024_768_0, (k0_pay64 v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12))⟩, ⟨Rect.unit (s := S1024x1024) ![640, 0] S128x1024.size inb_S1024x1024_S128x1024_640_0, (k0_pay56 v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12))⟩, ⟨Rect.unit (s := S1024x1024) ![512, 0] S128x1024.size inb_S1024x1024_S128x1024_512_0, (k0_pay48 v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12))⟩, ⟨Rect.unit (s := S1024x1024) ![384, 0] S128x1024.size inb_S1024x1024_S128x1024_384_0, (k0_pay39 v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12))⟩, ⟨Rect.unit (s := S1024x1024) ![256, 0] S128x1024.size inb_S1024x1024_S128x1024_256_0, (k0_pay30 v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12))⟩, ⟨Rect.unit (s := S1024x1024) ![128, 0] S128x1024.size inb_S1024x1024_S128x1024_128_0, (k0_pay21 v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12))⟩, ⟨Rect.unit (s := S1024x1024) ![0, 0] S128x1024.size inb_S1024x1024_S128x1024_0_0, (k0_pay11 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12))⟩]) (ix2 r t) = Ideal.exp2 (I.X r t) :=
  rows8 arg9.view f9 (fun r t => Ideal.exp2 (I.X r t)) _ _ (pay21_X I 0 (by decide) v9 (k0_pay8 v7 k0_pay7) (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12) (hA0 I arg4 arg5 arg12 X4 X5 X12 v7 v9 h4 h5 hX12 h7 h9) (whole5 I arg4 arg5 arg12 X4 X5 X12 v7 v9 h4 h5 hX12 h7 h9) (hC0 I arg4 arg5 arg12 X4 X5 X12 v7 v9 h4 h5 hX12 h7 h9) h9 (shift_at I v7 h7)) _ _ (pay21_X I 1 (by decide) v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12) (hA1 I arg4 arg5 arg12 X4 X5 X12 v7 v9 h4 h5 hX12 h7 h9) (whole5 I arg4 arg5 arg12 X4 X5 X12 v7 v9 h4 h5 hX12 h7 h9) (hC1 I arg4 arg5 arg12 X4 X5 X12 v7 v9 h4 h5 hX12 h7 h9) h9 (shift_at I v7 h7)) _ _ (pay21_X I 2 (by decide) v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12) (hA2 I arg4 arg5 arg12 X4 X5 X12 v7 v9 h4 h5 hX12 h7 h9) (whole5 I arg4 arg5 arg12 X4 X5 X12 v7 v9 h4 h5 hX12 h7 h9) (hC2 I arg4 arg5 arg12 X4 X5 X12 v7 v9 h4 h5 hX12 h7 h9) h9 (shift_at I v7 h7)) _ _ (pay21_X I 3 (by decide) v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12) (hA3 I arg4 arg5 arg12 X4 X5 X12 v7 v9 h4 h5 hX12 h7 h9) (whole5 I arg4 arg5 arg12 X4 X5 X12 v7 v9 h4 h5 hX12 h7 h9) (hC3 I arg4 arg5 arg12 X4 X5 X12 v7 v9 h4 h5 hX12 h7 h9) h9 (shift_at I v7 h7)) _ _ (pay21_X I 4 (by decide) v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12) (hA4 I arg4 arg5 arg12 X4 X5 X12 v7 v9 h4 h5 hX12 h7 h9) (whole5 I arg4 arg5 arg12 X4 X5 X12 v7 v9 h4 h5 hX12 h7 h9) (hC4 I arg4 arg5 arg12 X4 X5 X12 v7 v9 h4 h5 hX12 h7 h9) h9 (shift_at I v7 h7)) _ _ (pay21_X I 5 (by decide) v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12) (hA5 I arg4 arg5 arg12 X4 X5 X12 v7 v9 h4 h5 hX12 h7 h9) (whole5 I arg4 arg5 arg12 X4 X5 X12 v7 v9 h4 h5 hX12 h7 h9) (hC5 I arg4 arg5 arg12 X4 X5 X12 v7 v9 h4 h5 hX12 h7 h9) h9 (shift_at I v7 h7)) _ _ (pay21_X I 6 (by decide) v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12) (hA6 I arg4 arg5 arg12 X4 X5 X12 v7 v9 h4 h5 hX12 h7 h9) (whole5 I arg4 arg5 arg12 X4 X5 X12 v7 v9 h4 h5 hX12 h7 h9) (hC6 I arg4 arg5 arg12 X4 X5 X12 v7 v9 h4 h5 hX12 h7 h9) h9 (shift_at I v7 h7)) _ _ (pay21_X I 7 (by decide) v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12) (hA7 I arg4 arg5 arg12 X4 X5 X12 v7 v9 h4 h5 hX12 h7 h9) (whole5 I arg4 arg5 arg12 X4 X5 X12 v7 v9 h4 h5 hX12 h7 h9) (hC7 I arg4 arg5 arg12 X4 X5 X12 v7 v9 h4 h5 hX12 h7 h9) h9 (shift_at I v7 h7)) r t
set_option maxHeartbeats 1000000 in
theorem fast10 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (arg10 : Memref sig .tc .vmem S1024x128 .f32) (f10 : BufTy.Contents (Elt Ideal) arg10.view.ty) (r : Fin 1024) (b : Fin 128) :
    arg10.view.read (Elt Ideal) (arg10.view.writes (Elt Ideal) f10 [⟨Rect.unit (s := S1024x128) ![896, 0] S128x128.size inb_S1024x128_S128x128_896_0, (k0_pay76 v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12))⟩, ⟨Rect.unit (s := S1024x128) ![768, 0] S128x128.size inb_S1024x128_S128x128_768_0, (k0_pay67 v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12))⟩, ⟨Rect.unit (s := S1024x128) ![640, 0] S128x128.size inb_S1024x128_S128x128_640_0, (k0_pay59 v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12))⟩, ⟨Rect.unit (s := S1024x128) ![512, 0] S128x128.size inb_S1024x128_S128x128_512_0, (k0_pay51 v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12))⟩, ⟨Rect.unit (s := S1024x128) ![384, 0] S128x128.size inb_S1024x128_S128x128_384_0, (k0_pay42 v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12))⟩, ⟨Rect.unit (s := S1024x128) ![256, 0] S128x128.size inb_S1024x128_S128x128_256_0, (k0_pay33 v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12))⟩, ⟨Rect.unit (s := S1024x128) ![128, 0] S128x128.size inb_S1024x128_S128x128_128_0, (k0_pay24 v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12))⟩, ⟨Rect.unit (s := S1024x128) ![0, 0] S128x128.size inb_S1024x128_S128x128_0_0, (k0_pay14 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12))⟩]) (ix2 r b) = Ideal.div 1 (rowSum I.X r) :=
  rows8 arg10.view f10 (fun r b => Ideal.div 1 (rowSum I.X r)) _ _ (pay24_X I 0 (by decide) v9 (k0_pay8 v7 k0_pay7) (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12) (hA0 I arg4 arg5 arg12 X4 X5 X12 v7 v9 h4 h5 hX12 h7 h9) (whole5 I arg4 arg5 arg12 X4 X5 X12 v7 v9 h4 h5 hX12 h7 h9) (hC0 I arg4 arg5 arg12 X4 X5 X12 v7 v9 h4 h5 hX12 h7 h9) h9 (shift_at I v7 h7)) _ _ (pay24_X I 1 (by decide) v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12) (hA1 I arg4 arg5 arg12 X4 X5 X12 v7 v9 h4 h5 hX12 h7 h9) (whole5 I arg4 arg5 arg12 X4 X5 X12 v7 v9 h4 h5 hX12 h7 h9) (hC1 I arg4 arg5 arg12 X4 X5 X12 v7 v9 h4 h5 hX12 h7 h9) h9 (shift_at I v7 h7)) _ _ (pay24_X I 2 (by decide) v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12) (hA2 I arg4 arg5 arg12 X4 X5 X12 v7 v9 h4 h5 hX12 h7 h9) (whole5 I arg4 arg5 arg12 X4 X5 X12 v7 v9 h4 h5 hX12 h7 h9) (hC2 I arg4 arg5 arg12 X4 X5 X12 v7 v9 h4 h5 hX12 h7 h9) h9 (shift_at I v7 h7)) _ _ (pay24_X I 3 (by decide) v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12) (hA3 I arg4 arg5 arg12 X4 X5 X12 v7 v9 h4 h5 hX12 h7 h9) (whole5 I arg4 arg5 arg12 X4 X5 X12 v7 v9 h4 h5 hX12 h7 h9) (hC3 I arg4 arg5 arg12 X4 X5 X12 v7 v9 h4 h5 hX12 h7 h9) h9 (shift_at I v7 h7)) _ _ (pay24_X I 4 (by decide) v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12) (hA4 I arg4 arg5 arg12 X4 X5 X12 v7 v9 h4 h5 hX12 h7 h9) (whole5 I arg4 arg5 arg12 X4 X5 X12 v7 v9 h4 h5 hX12 h7 h9) (hC4 I arg4 arg5 arg12 X4 X5 X12 v7 v9 h4 h5 hX12 h7 h9) h9 (shift_at I v7 h7)) _ _ (pay24_X I 5 (by decide) v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12) (hA5 I arg4 arg5 arg12 X4 X5 X12 v7 v9 h4 h5 hX12 h7 h9) (whole5 I arg4 arg5 arg12 X4 X5 X12 v7 v9 h4 h5 hX12 h7 h9) (hC5 I arg4 arg5 arg12 X4 X5 X12 v7 v9 h4 h5 hX12 h7 h9) h9 (shift_at I v7 h7)) _ _ (pay24_X I 6 (by decide) v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12) (hA6 I arg4 arg5 arg12 X4 X5 X12 v7 v9 h4 h5 hX12 h7 h9) (whole5 I arg4 arg5 arg12 X4 X5 X12 v7 v9 h4 h5 hX12 h7 h9) (hC6 I arg4 arg5 arg12 X4 X5 X12 v7 v9 h4 h5 hX12 h7 h9) h9 (shift_at I v7 h7)) _ _ (pay24_X I 7 (by decide) v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12) (hA7 I arg4 arg5 arg12 X4 X5 X12 v7 v9 h4 h5 hX12 h7 h9) (whole5 I arg4 arg5 arg12 X4 X5 X12 v7 v9 h4 h5 hX12 h7 h9) (hC7 I arg4 arg5 arg12 X4 X5 X12 v7 v9 h4 h5 hX12 h7 h9) h9 (shift_at I v7 h7)) r b
theorem cs0 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (ix2 0 t) = ∑ r ∈ upTo 1, Ideal.exp2 (I.X r t) := by
  refine (pay12_at _ _ _ _ _ _ t).trans ?_
  rw [sum_succ _ 0 (by decide), upTo_zero, Finset.sum_empty]
  exact congrArg _ (Finset.sum_congr rfl fun a _ => by rw [pay19_X I 0 (by decide) v9 (k0_pay8 v7 k0_pay7) (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12) (hA0 I arg4 arg5 arg12 X4 X5 X12 v7 v9 h4 h5 hX12 h7 h9) (whole5 I arg4 arg5 arg12 X4 X5 X12 v7 v9 h4 h5 hX12 h7 h9) (hC0 I arg4 arg5 arg12 X4 X5 X12 v7 v9 h4 h5 hX12 h7 h9) h9 (shift_at I v7 h7)])
theorem cs1 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (ix2 0 t) = ∑ r ∈ upTo 2, Ideal.exp2 (I.X r t) :=
  pay22_X I 1 (by decide) v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12) (hA1 I arg4 arg5 arg12 X4 X5 X12 v7 v9 h4 h5 hX12 h7 h9) (whole5 I arg4 arg5 arg12 X4 X5 X12 v7 v9 h4 h5 hX12 h7 h9) (hC1 I arg4 arg5 arg12 X4 X5 X12 v7 v9 h4 h5 hX12 h7 h9) h9 (shift_at I v7 h7) _ (cs0 I arg4 arg5 arg12 X4 X5 X12 v7 v9 h4 h5 hX12 h7 h9) t
theorem cs2 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (ix2 0 t) = ∑ r ∈ upTo 3, Ideal.exp2 (I.X r t) :=
  pay22_X I 2 (by decide) v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12) (hA2 I arg4 arg5 arg12 X4 X5 X12 v7 v9 h4 h5 hX12 h7 h9) (whole5 I arg4 arg5 arg12 X4 X5 X12 v7 v9 h4 h5 hX12 h7 h9) (hC2 I arg4 arg5 arg12 X4 X5 X12 v7 v9 h4 h5 hX12 h7 h9) h9 (shift_at I v7 h7) _ (cs1 I arg4 arg5 arg12 X4 X5 X12 v7 v9 h4 h5 hX12 h7 h9) t
theorem cs3 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) (ix2 0 t) = ∑ r ∈ upTo 4, Ideal.exp2 (I.X r t) :=
  pay22_X I 3 (by decide) v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12) (hA3 I arg4 arg5 arg12 X4 X5 X12 v7 v9 h4 h5 hX12 h7 h9) (whole5 I arg4 arg5 arg12 X4 X5 X12 v7 v9 h4 h5 hX12 h7 h9) (hC3 I arg4 arg5 arg12 X4 X5 X12 v7 v9 h4 h5 hX12 h7 h9) h9 (shift_at I v7 h7) _ (cs2 I arg4 arg5 arg12 X4 X5 X12 v7 v9 h4 h5 hX12 h7 h9) t
theorem cs4 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) (ix2 0 t) = ∑ r ∈ upTo 5, Ideal.exp2 (I.X r t) :=
  pay22_X I 4 (by decide) v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12) (hA4 I arg4 arg5 arg12 X4 X5 X12 v7 v9 h4 h5 hX12 h7 h9) (whole5 I arg4 arg5 arg12 X4 X5 X12 v7 v9 h4 h5 hX12 h7 h9) (hC4 I arg4 arg5 arg12 X4 X5 X12 v7 v9 h4 h5 hX12 h7 h9) h9 (shift_at I v7 h7) _ (cs3 I arg4 arg5 arg12 X4 X5 X12 v7 v9 h4 h5 hX12 h7 h9) t
theorem cs5 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay57 v9 (k0_pay8 v7 k0_pay7) (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) (ix2 0 t) = ∑ r ∈ upTo 6, Ideal.exp2 (I.X r t) :=
  pay22_X I 5 (by decide) v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12) (hA5 I arg4 arg5 arg12 X4 X5 X12 v7 v9 h4 h5 hX12 h7 h9) (whole5 I arg4 arg5 arg12 X4 X5 X12 v7 v9 h4 h5 hX12 h7 h9) (hC5 I arg4 arg5 arg12 X4 X5 X12 v7 v9 h4 h5 hX12 h7 h9) h9 (shift_at I v7 h7) _ (cs4 I arg4 arg5 arg12 X4 X5 X12 v7 v9 h4 h5 hX12 h7 h9) t
theorem cs6 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay65 v9 (k0_pay8 v7 k0_pay7) (k0_pay57 v9 (k0_pay8 v7 k0_pay7) (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12)) (ix2 0 t) = ∑ r ∈ upTo 7, Ideal.exp2 (I.X r t) :=
  pay22_X I 6 (by decide) v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12) (hA6 I arg4 arg5 arg12 X4 X5 X12 v7 v9 h4 h5 hX12 h7 h9) (whole5 I arg4 arg5 arg12 X4 X5 X12 v7 v9 h4 h5 hX12 h7 h9) (hC6 I arg4 arg5 arg12 X4 X5 X12 v7 v9 h4 h5 hX12 h7 h9) h9 (shift_at I v7 h7) _ (cs5 I arg4 arg5 arg12 X4 X5 X12 v7 v9 h4 h5 hX12 h7 h9) t
theorem cs7 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay74 v9 (k0_pay8 v7 k0_pay7) (k0_pay65 v9 (k0_pay8 v7 k0_pay7) (k0_pay57 v9 (k0_pay8 v7 k0_pay7) (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12)) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12)) (ix2 0 t) = ∑ r ∈ upTo 8, Ideal.exp2 (I.X r t) :=
  pay22_X I 7 (by decide) v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12) (hA7 I arg4 arg5 arg12 X4 X5 X12 v7 v9 h4 h5 hX12 h7 h9) (whole5 I arg4 arg5 arg12 X4 X5 X12 v7 v9 h4 h5 hX12 h7 h9) (hC7 I arg4 arg5 arg12 X4 X5 X12 v7 v9 h4 h5 hX12 h7 h9) h9 (shift_at I v7 h7) _ (cs6 I arg4 arg5 arg12 X4 X5 X12 v7 v9 h4 h5 hX12 h7 h9) t
theorem fastCol (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (t : Fin 1024) : (k0_pay74 v9 (k0_pay8 v7 k0_pay7) (k0_pay65 v9 (k0_pay8 v7 k0_pay7) (k0_pay57 v9 (k0_pay8 v7 k0_pay7) (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12)) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12)) (ix2 0 t) = colSum I.X t :=
  (cs7 I arg4 arg5 arg12 X4 X5 X12 v7 v9 h4 h5 hX12 h7 h9 t).trans (by rw [upTo_eight]; rfl)
theorem fast11 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (arg11 : Memref sig .tc .vmem S1x1024 .f32) (f11 : BufTy.Contents (Elt Ideal) arg11.view.ty) (t : Fin 1024) :
    arg11.view.read (Elt Ideal) (arg11.view.writes (Elt Ideal) f11 [⟨Rect.unit (s := S1x1024) ![0, 0] S1x1024.size inb_S1x1024_S1x1024_0_0, k0_pay80 (k0_pay74 v9 (k0_pay8 v7 k0_pay7) (k0_pay65 v9 (k0_pay8 v7 k0_pay7) (k0_pay57 v9 (k0_pay8 v7 k0_pay7) (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12)) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12))⟩]) (ix2 0 t) = Ideal.div 1 (colSum I.X t) :=
  (read_writes2_in arg11.view _ 0 0 inb_S1x1024_S1x1024_0_0 rfl _ [] 0 t 0 t rfl (Nat.zero_add _).symm).trans ((pay80_at _ t).trans (by rw [fastCol I arg4 arg5 arg12 X4 X5 X12 v7 v9 h4 h5 hX12 h7 h9]))
theorem fast16 (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (v12 : IVec S128x128 1) (h12 : ∀ a b, v12 (ix2 a b) = if a = b then 1#1 else 0#1) (arg16 : Memref sig .tc .vmem S1x1024 .f32) (f16 : BufTy.Contents (Elt Ideal) arg16.view.ty) (t : Fin 1024) :
    arg16.view.read (Elt Ideal) (arg16.view.writes (Elt Ideal) f16 [⟨Rect.unit (s := S1x1024) ![0, 0] S1x1024.size inb_S1x1024_S1x1024_0_0, k0_pay82 (k0_pay17 v12 (k0_pay15 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) k0_pay16) (k0_pay18 v12 (k0_pay13 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12))) (k0_pay26 (k0_pay25 v9 v12 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12))) (k0_pay27 v12 (k0_pay23 v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12))) (k0_pay35 (k0_pay34 v9 v12 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12))) (k0_pay36 v12 (k0_pay32 v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12))) (k0_pay44 (k0_pay43 v9 v12 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12))) (k0_pay45 v12 (k0_pay41 v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12))) (k0_pay52 v9 v12 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) (k0_pay53 v12 (k0_pay50 v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12))) (k0_pay60 v9 v12 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) (k0_pay61 v12 (k0_pay58 v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) (Scalar.ofBits .f32 0x00000000#32)) (k0_pay68 v9 v12 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12)) (k0_pay70 v12 (k0_pay66 v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12)) k0_pay69) (k0_pay74 v9 (k0_pay8 v7 k0_pay7) (k0_pay65 v9 (k0_pay8 v7 k0_pay7) (k0_pay57 v9 (k0_pay8 v7 k0_pay7) (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12)) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12)) (k0_pay77 v9 v12 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12)) (k0_pay78 v9 v12 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12))⟩]) (ix2 0 t) = fastLoss I.X t :=
  (read_writes2_in arg16.view _ 0 0 inb_S1x1024_S1x1024_0_0 rfl _ [] 0 t 0 t rfl (Nat.zero_add _).symm).trans
    ((pay82_at _ _ _ _ _ _ _ _ _ _ _ _ _ _ _ _ _ (fun t => I.X t t) (rowSum I.X)
            (fun b => (diag0_at v7 v9 k0_pay7 v12 h12 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12) b).trans (pay19_X I 0 (by decide) v9 (k0_pay8 v7 k0_pay7) (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12) (hA0 I arg4 arg5 arg12 X4 X5 X12 v7 v9 h4 h5 hX12 h7 h9) (whole5 I arg4 arg5 arg12 X4 X5 X12 v7 v9 h4 h5 hX12 h7 h9) (hC0 I arg4 arg5 arg12 X4 X5 X12 v7 v9 h4 h5 hX12 h7 h9) h9 (shift_at I v7 h7) b _))
      (fun b => (pay18_at v12 (k0_pay13 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12)) h12 b).trans (pay23_X I 0 (by decide) v9 (k0_pay8 v7 k0_pay7) (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect X12) (hA0 I arg4 arg5 arg12 X4 X5 X12 v7 v9 h4 h5 hX12 h7 h9) (whole5 I arg4 arg5 arg12 X4 X5 X12 v7 v9 h4 h5 hX12 h7 h9) (hC0 I arg4 arg5 arg12 X4 X5 X12 v7 v9 h4 h5 hX12 h7 h9) h9 (shift_at I v7 h7) b b))
      (fun b => (diag1_at v9 (k0_pay8 v7 k0_pay7) v12 h12 (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12) b).trans (pay19_X I 1 (by decide) v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12) (hA1 I arg4 arg5 arg12 X4 X5 X12 v7 v9 h4 h5 hX12 h7 h9) (whole5 I arg4 arg5 arg12 X4 X5 X12 v7 v9 h4 h5 hX12 h7 h9) (hC1 I arg4 arg5 arg12 X4 X5 X12 v7 v9 h4 h5 hX12 h7 h9) h9 (shift_at I v7 h7) b _))
      (fun b => (pay18_at v12 (k0_pay23 v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12)) h12 b).trans (pay23_X I 1 (by decide) v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect X12) (hA1 I arg4 arg5 arg12 X4 X5 X12 v7 v9 h4 h5 hX12 h7 h9) (whole5 I arg4 arg5 arg12 X4 X5 X12 v7 v9 h4 h5 hX12 h7 h9) (hC1 I arg4 arg5 arg12 X4 X5 X12 v7 v9 h4 h5 hX12 h7 h9) h9 (shift_at I v7 h7) b b))
      (fun b => (diag2_at v9 (k0_pay8 v7 k0_pay7) v12 h12 (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12) b).trans (pay19_X I 2 (by decide) v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12) (hA2 I arg4 arg5 arg12 X4 X5 X12 v7 v9 h4 h5 hX12 h7 h9) (whole5 I arg4 arg5 arg12 X4 X5 X12 v7 v9 h4 h5 hX12 h7 h9) (hC2 I arg4 arg5 arg12 X4 X5 X12 v7 v9 h4 h5 hX12 h7 h9) h9 (shift_at I v7 h7) b _))
      (fun b => (pay18_at v12 (k0_pay32 v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12)) h12 b).trans (pay23_X I 2 (by decide) v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect X12) (hA2 I arg4 arg5 arg12 X4 X5 X12 v7 v9 h4 h5 hX12 h7 h9) (whole5 I arg4 arg5 arg12 X4 X5 X12 v7 v9 h4 h5 hX12 h7 h9) (hC2 I arg4 arg5 arg12 X4 X5 X12 v7 v9 h4 h5 hX12 h7 h9) h9 (shift_at I v7 h7) b b))
      (fun b => (diag3_at v9 (k0_pay8 v7 k0_pay7) v12 h12 (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12) b).trans (pay19_X I 3 (by decide) v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12) (hA3 I arg4 arg5 arg12 X4 X5 X12 v7 v9 h4 h5 hX12 h7 h9) (whole5 I arg4 arg5 arg12 X4 X5 X12 v7 v9 h4 h5 hX12 h7 h9) (hC3 I arg4 arg5 arg12 X4 X5 X12 v7 v9 h4 h5 hX12 h7 h9) h9 (shift_at I v7 h7) b _))
      (fun b => (pay18_at v12 (k0_pay41 v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12)) h12 b).trans (pay23_X I 3 (by decide) v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect X12) (hA3 I arg4 arg5 arg12 X4 X5 X12 v7 v9 h4 h5 hX12 h7 h9) (whole5 I arg4 arg5 arg12 X4 X5 X12 v7 v9 h4 h5 hX12 h7 h9) (hC3 I arg4 arg5 arg12 X4 X5 X12 v7 v9 h4 h5 hX12 h7 h9) h9 (shift_at I v7 h7) b b))
      (fun b => (diag4_at v9 (k0_pay8 v7 k0_pay7) v12 h12 (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12) b).trans (pay19_X I 4 (by decide) v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12) (hA4 I arg4 arg5 arg12 X4 X5 X12 v7 v9 h4 h5 hX12 h7 h9) (whole5 I arg4 arg5 arg12 X4 X5 X12 v7 v9 h4 h5 hX12 h7 h9) (hC4 I arg4 arg5 arg12 X4 X5 X12 v7 v9 h4 h5 hX12 h7 h9) h9 (shift_at I v7 h7) b _))
      (fun b => (pay18_at v12 (k0_pay50 v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12)) h12 b).trans (pay23_X I 4 (by decide) v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect X12) (hA4 I arg4 arg5 arg12 X4 X5 X12 v7 v9 h4 h5 hX12 h7 h9) (whole5 I arg4 arg5 arg12 X4 X5 X12 v7 v9 h4 h5 hX12 h7 h9) (hC4 I arg4 arg5 arg12 X4 X5 X12 v7 v9 h4 h5 hX12 h7 h9) h9 (shift_at I v7 h7) b b))
      (fun b => (diag5_at v9 (k0_pay8 v7 k0_pay7) v12 h12 (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12) b).trans (pay19_X I 5 (by decide) v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12) (hA5 I arg4 arg5 arg12 X4 X5 X12 v7 v9 h4 h5 hX12 h7 h9) (whole5 I arg4 arg5 arg12 X4 X5 X12 v7 v9 h4 h5 hX12 h7 h9) (hC5 I arg4 arg5 arg12 X4 X5 X12 v7 v9 h4 h5 hX12 h7 h9) h9 (shift_at I v7 h7) b _))
      (fun b => (pay61_at v12 (k0_pay58 v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12)) h12 b).trans (pay23_X I 5 (by decide) v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect X12) (hA5 I arg4 arg5 arg12 X4 X5 X12 v7 v9 h4 h5 hX12 h7 h9) (whole5 I arg4 arg5 arg12 X4 X5 X12 v7 v9 h4 h5 hX12 h7 h9) (hC5 I arg4 arg5 arg12 X4 X5 X12 v7 v9 h4 h5 hX12 h7 h9) h9 (shift_at I v7 h7) b b))
      (fun b => (diag6_at v9 (k0_pay8 v7 k0_pay7) v12 h12 (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12) b).trans (pay19_X I 6 (by decide) v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12) (hA6 I arg4 arg5 arg12 X4 X5 X12 v7 v9 h4 h5 hX12 h7 h9) (whole5 I arg4 arg5 arg12 X4 X5 X12 v7 v9 h4 h5 hX12 h7 h9) (hC6 I arg4 arg5 arg12 X4 X5 X12 v7 v9 h4 h5 hX12 h7 h9) h9 (shift_at I v7 h7) b _))
      (fun b => (pay70_at v12 (k0_pay66 v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12)) h12 b).trans (pay23_X I 6 (by decide) v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect X12) (hA6 I arg4 arg5 arg12 X4 X5 X12 v7 v9 h4 h5 hX12 h7 h9) (whole5 I arg4 arg5 arg12 X4 X5 X12 v7 v9 h4 h5 hX12 h7 h9) (hC6 I arg4 arg5 arg12 X4 X5 X12 v7 v9 h4 h5 hX12 h7 h9) h9 (shift_at I v7 h7) b b))
      (fun b => (diag7_at v9 (k0_pay8 v7 k0_pay7) v12 h12 (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12) b).trans (pay19_X I 7 (by decide) v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12) (hA7 I arg4 arg5 arg12 X4 X5 X12 v7 v9 h4 h5 hX12 h7 h9) (whole5 I arg4 arg5 arg12 X4 X5 X12 v7 v9 h4 h5 hX12 h7 h9) (hC7 I arg4 arg5 arg12 X4 X5 X12 v7 v9 h4 h5 hX12 h7 h9) h9 (shift_at I v7 h7) b _))
      (fun b => (pay78_at v9 (k0_pay8 v7 k0_pay7) v12 h12 (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12) b).trans (pay23_X I 7 (by decide) v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect X12) (hA7 I arg4 arg5 arg12 X4 X5 X12 v7 v9 h4 h5 hX12 h7 h9) (whole5 I arg4 arg5 arg12 X4 X5 X12 v7 v9 h4 h5 hX12 h7 h9) (hC7 I arg4 arg5 arg12 X4 X5 X12 v7 v9 h4 h5 hX12 h7 h9) h9 (shift_at I v7 h7) b b)) t).trans (by rw [fastCol I arg4 arg5 arg12 X4 X5 X12 v7 v9 h4 h5 hX12 h7 h9]; rfl))

end Cert.KernelIdeal.Hand

end
-- ==== Proof.KernelIdealGradVals.lean ====
/- The gradients' stores of one group, read back. -/
module

public import proofs.«01_k».proof.Proof.KernelIdealFastPays
public import proofs.«01_k».proof.Proof.KernelIdealFastVals

@[expose] public section

set_option maxRecDepth 16384

noncomputable section

namespace Cert.KernelIdeal.Hand

open Idealize.ShloMosaic Cert.KernelIdeal.Gen Cert.Chunks Cert.RowReads Cert.Group

/-- Row `a` of block `k` of the gradients' matrix, from a product less the diagonal. -/
theorem g_row (M : Fin 1024 → Fin 1024 → EReal) (α γ : Fin 1024 → EReal) (k : ℕ) (hk : k < 8) (o : ℕ) (ho : o = 128 * k) (A9 : Vec Ideal S128x1024 .f32) (A10 : Vec Ideal S128x128 .f32) (A11 : Vec Ideal S1x1024 .f32)
    (h9 : ∀ a t, A9 (ix2 a t) = M (row k hk a) t) (h10 : ∀ a b, A10 (ix2 a b) = α (row k hk a)) (h11 : ∀ t, A11 (ix2 0 t) = γ t) (a : Fin 128) (t : Fin 1024) :
    A9 (ix2 a t) * k0_pay101 A11 A10 (ix2 a t) - (if o + a.val = t.val then 2 else 0) = Inp.G M α γ (row k hk a) t := by
  subst ho
  rw [pay101_at, h9, h10, h11]
  unfold Inp.G
  congr 1
  by_cases h : 128 * k + a.val = t.val
  · rw [if_pos h, if_pos (Fin.ext h)]
  · rw [if_neg h, if_neg (fun e => h (congrArg Fin.val e))]

theorem r11_at (arg11 : Memref sig .tc .vmem S1x1024 .f32) (g11 : BufTy.Contents (Elt Ideal) arg11.view.ty) (γ : Fin 1024 → EReal) (h11 : ∀ t, arg11.view.read (Elt Ideal) g11 (ix2 0 t) = γ t) (t : Fin 1024) :
    (View.readAt (Elt Ideal) arg11.view (Rect.unit (s := S1x1024) ![0, 0] S1x1024.size inb_S1x1024_S1x1024_0_0).toLoadRect g11) (ix2 0 t) = γ t :=
  (readAt2 arg11.view g11 0 0 _ rfl 0 t 0 t rfl (Nat.zero_add _).symm).trans (h11 t)
theorem grow0 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (a : Fin 128) (t : Fin 1024) : (k0_pay100 v12 (View.readAt (Elt Ideal) arg11.view (Rect.unit (s := S1x1024) ![0, 0] S1x1024.size inb_S1x1024_S1x1024_0_0).toLoadRect g11) (View.readAt (Elt Ideal) arg9.view (Rect.unit (s := S1024x1024) ![0, 0] S128x1024.size inb_S1024x1024_S128x1024_0_0).toLoadRect g9) (View.readAt (Elt Ideal) arg10.view (Rect.unit (s := S1024x128) ![0, 0] S128x128.size inb_S1024x128_S128x128_0_0).toLoadRect g10)) (ix2 a t) = Inp.G M α γ (row 0 (by decide) a) t :=
  (pay100_at v12 h12 (View.readAt (Elt Ideal) arg11.view (Rect.unit (s := S1x1024) ![0, 0] S1x1024.size inb_S1x1024_S1x1024_0_0).toLoadRect g11) (View.readAt (Elt Ideal) arg9.view (Rect.unit (s := S1024x1024) ![0, 0] S128x1024.size inb_S1024x1024_S128x1024_0_0).toLoadRect g9) (View.readAt (Elt Ideal) arg10.view (Rect.unit (s := S1024x128) ![0, 0] S128x128.size inb_S1024x128_S128x128_0_0).toLoadRect g10) a t).trans (g_row M α γ 0 (by decide) 0 rfl (View.readAt (Elt Ideal) arg9.view (Rect.unit (s := S1024x1024) ![0, 0] S128x1024.size inb_S1024x1024_S128x1024_0_0).toLoadRect g9) (View.readAt (Elt Ideal) arg10.view (Rect.unit (s := S1024x128) ![0, 0] S128x128.size inb_S1024x128_S128x128_0_0).toLoadRect g10) (View.readAt (Elt Ideal) arg11.view (Rect.unit (s := S1x1024) ![0, 0] S1x1024.size inb_S1x1024_S1x1024_0_0).toLoadRect g11) (fun a t => (readAt2 arg9.view g9 0 0 _ rfl a t (row 0 (by decide) a) t rfl (Nat.zero_add _).symm).trans (h9 _ t)) (fun a b => (readAt2 arg10.view g10 0 0 _ rfl a b (row 0 (by decide) a) b rfl (Nat.zero_add _).symm).trans (h10 _ b)) (r11_at arg11 g11 γ h11) a t)
theorem grow1 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (a : Fin 128) (t : Fin 1024) : (k0_pay102 (k0_pay99 (F := Ideal) v12) (View.readAt (Elt Ideal) arg9.view (Rect.unit (s := S1024x1024) ![128, 0] S128x1024.size inb_S1024x1024_S128x1024_128_0).toLoadRect g9) (k0_pay101 (View.readAt (Elt Ideal) arg11.view (Rect.unit (s := S1x1024) ![0, 0] S1x1024.size inb_S1x1024_S1x1024_0_0).toLoadRect g11) (View.readAt (Elt Ideal) arg10.view (Rect.unit (s := S1024x128) ![128, 0] S128x128.size inb_S1024x128_S128x128_128_0).toLoadRect g10))) (ix2 a t) = Inp.G M α γ (row 1 (by decide) a) t :=
  (pay102_at _ (View.readAt (Elt Ideal) arg9.view (Rect.unit (s := S1024x1024) ![128, 0] S128x1024.size inb_S1024x1024_S128x1024_128_0).toLoadRect g9) (k0_pay101 (View.readAt (Elt Ideal) arg11.view (Rect.unit (s := S1x1024) ![0, 0] S1x1024.size inb_S1x1024_S1x1024_0_0).toLoadRect g11) (View.readAt (Elt Ideal) arg10.view (Rect.unit (s := S1024x128) ![128, 0] S128x128.size inb_S1024x128_S128x128_128_0).toLoadRect g10)) (pay99_at v12 h12) a t).trans (g_row M α γ 1 (by decide) 128 rfl (View.readAt (Elt Ideal) arg9.view (Rect.unit (s := S1024x1024) ![128, 0] S128x1024.size inb_S1024x1024_S128x1024_128_0).toLoadRect g9) (View.readAt (Elt Ideal) arg10.view (Rect.unit (s := S1024x128) ![128, 0] S128x128.size inb_S1024x128_S128x128_128_0).toLoadRect g10) (View.readAt (Elt Ideal) arg11.view (Rect.unit (s := S1x1024) ![0, 0] S1x1024.size inb_S1x1024_S1x1024_0_0).toLoadRect g11) (fun a t => (readAt2 arg9.view g9 128 0 _ rfl a t (row 1 (by decide) a) t rfl (Nat.zero_add _).symm).trans (h9 _ t)) (fun a b => (readAt2 arg10.view g10 128 0 _ rfl a b (row 1 (by decide) a) b rfl (Nat.zero_add _).symm).trans (h10 _ b)) (r11_at arg11 g11 γ h11) a t)
theorem grow2 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (a : Fin 128) (t : Fin 1024) : (k0_pay103 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![256, 0] S128x1024.size inb_S1024x1024_S128x1024_256_0).toLoadRect g9) (View.readAt (Elt Ideal) arg10.view (Rect.unit (s := S1024x128) ![256, 0] S128x128.size inb_S1024x128_S128x128_256_0).toLoadRect g10)) (ix2 a t) = Inp.G M α γ (row 2 (by decide) a) t :=
  (pay103_at (View.readAt (Elt Ideal) arg11.view (Rect.unit (s := S1x1024) ![0, 0] S1x1024.size inb_S1x1024_S1x1024_0_0).toLoadRect g11) _ (View.readAt (Elt Ideal) arg9.view (Rect.unit (s := S1024x1024) ![256, 0] S128x1024.size inb_S1024x1024_S128x1024_256_0).toLoadRect g9) (View.readAt (Elt Ideal) arg10.view (Rect.unit (s := S1024x128) ![256, 0] S128x128.size inb_S1024x128_S128x128_256_0).toLoadRect g10) (pay99_at v12 h12) a t).trans (g_row M α γ 2 (by decide) 256 rfl (View.readAt (Elt Ideal) arg9.view (Rect.unit (s := S1024x1024) ![256, 0] S128x1024.size inb_S1024x1024_S128x1024_256_0).toLoadRect g9) (View.readAt (Elt Ideal) arg10.view (Rect.unit (s := S1024x128) ![256, 0] S128x128.size inb_S1024x128_S128x128_256_0).toLoadRect g10) (View.readAt (Elt Ideal) arg11.view (Rect.unit (s := S1x1024) ![0, 0] S1x1024.size inb_S1x1024_S1x1024_0_0).toLoadRect g11) (fun a t => (readAt2 arg9.view g9 256 0 _ rfl a t (row 2 (by decide) a) t rfl (Nat.zero_add _).symm).trans (h9 _ t)) (fun a b => (readAt2 arg10.view g10 256 0 _ rfl a b (row 2 (by decide) a) b rfl (Nat.zero_add _).symm).trans (h10 _ b)) (r11_at arg11 g11 γ h11) a t)
theorem grow3 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (a : Fin 128) (t : Fin 1024) : (k0_pay104 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![384, 0] S128x1024.size inb_S1024x1024_S128x1024_384_0).toLoadRect g9) (View.readAt (Elt Ideal) arg10.view (Rect.unit (s := S1024x128) ![384, 0] S128x128.size inb_S1024x128_S128x128_384_0).toLoadRect g10)) (ix2 a t) = Inp.G M α γ (row 3 (by decide) a) t :=
  (pay104_at (View.readAt (Elt Ideal) arg11.view (Rect.unit (s := S1x1024) ![0, 0] S1x1024.size inb_S1x1024_S1x1024_0_0).toLoadRect g11) _ (View.readAt (Elt Ideal) arg9.view (Rect.unit (s := S1024x1024) ![384, 0] S128x1024.size inb_S1024x1024_S128x1024_384_0).toLoadRect g9) (View.readAt (Elt Ideal) arg10.view (Rect.unit (s := S1024x128) ![384, 0] S128x128.size inb_S1024x128_S128x128_384_0).toLoadRect g10) (pay99_at v12 h12) a t).trans (g_row M α γ 3 (by decide) 384 rfl (View.readAt (Elt Ideal) arg9.view (Rect.unit (s := S1024x1024) ![384, 0] S128x1024.size inb_S1024x1024_S128x1024_384_0).toLoadRect g9) (View.readAt (Elt Ideal) arg10.view (Rect.unit (s := S1024x128) ![384, 0] S128x128.size inb_S1024x128_S128x128_384_0).toLoadRect g10) (View.readAt (Elt Ideal) arg11.view (Rect.unit (s := S1x1024) ![0, 0] S1x1024.size inb_S1x1024_S1x1024_0_0).toLoadRect g11) (fun a t => (readAt2 arg9.view g9 384 0 _ rfl a t (row 3 (by decide) a) t rfl (Nat.zero_add _).symm).trans (h9 _ t)) (fun a b => (readAt2 arg10.view g10 384 0 _ rfl a b (row 3 (by decide) a) b rfl (Nat.zero_add _).symm).trans (h10 _ b)) (r11_at arg11 g11 γ h11) a t)
theorem grow4 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (a : Fin 128) (t : Fin 1024) : (k0_pay105 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![512, 0] S128x1024.size inb_S1024x1024_S128x1024_512_0).toLoadRect g9) (View.readAt (Elt Ideal) arg10.view (Rect.unit (s := S1024x128) ![512, 0] S128x128.size inb_S1024x128_S128x128_512_0).toLoadRect g10)) (ix2 a t) = Inp.G M α γ (row 4 (by decide) a) t :=
  (pay105_at (View.readAt (Elt Ideal) arg11.view (Rect.unit (s := S1x1024) ![0, 0] S1x1024.size inb_S1x1024_S1x1024_0_0).toLoadRect g11) _ (View.readAt (Elt Ideal) arg9.view (Rect.unit (s := S1024x1024) ![512, 0] S128x1024.size inb_S1024x1024_S128x1024_512_0).toLoadRect g9) (View.readAt (Elt Ideal) arg10.view (Rect.unit (s := S1024x128) ![512, 0] S128x128.size inb_S1024x128_S128x128_512_0).toLoadRect g10) (pay99_at v12 h12) a t).trans (g_row M α γ 4 (by decide) 512 rfl (View.readAt (Elt Ideal) arg9.view (Rect.unit (s := S1024x1024) ![512, 0] S128x1024.size inb_S1024x1024_S128x1024_512_0).toLoadRect g9) (View.readAt (Elt Ideal) arg10.view (Rect.unit (s := S1024x128) ![512, 0] S128x128.size inb_S1024x128_S128x128_512_0).toLoadRect g10) (View.readAt (Elt Ideal) arg11.view (Rect.unit (s := S1x1024) ![0, 0] S1x1024.size inb_S1x1024_S1x1024_0_0).toLoadRect g11) (fun a t => (readAt2 arg9.view g9 512 0 _ rfl a t (row 4 (by decide) a) t rfl (Nat.zero_add _).symm).trans (h9 _ t)) (fun a b => (readAt2 arg10.view g10 512 0 _ rfl a b (row 4 (by decide) a) b rfl (Nat.zero_add _).symm).trans (h10 _ b)) (r11_at arg11 g11 γ h11) a t)
theorem grow5 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (a : Fin 128) (t : Fin 1024) : (k0_pay106 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![640, 0] S128x1024.size inb_S1024x1024_S128x1024_640_0).toLoadRect g9) (View.readAt (Elt Ideal) arg10.view (Rect.unit (s := S1024x128) ![640, 0] S128x128.size inb_S1024x128_S128x128_640_0).toLoadRect g10)) (ix2 a t) = Inp.G M α γ (row 5 (by decide) a) t :=
  (pay106_at (View.readAt (Elt Ideal) arg11.view (Rect.unit (s := S1x1024) ![0, 0] S1x1024.size inb_S1x1024_S1x1024_0_0).toLoadRect g11) _ (View.readAt (Elt Ideal) arg9.view (Rect.unit (s := S1024x1024) ![640, 0] S128x1024.size inb_S1024x1024_S128x1024_640_0).toLoadRect g9) (View.readAt (Elt Ideal) arg10.view (Rect.unit (s := S1024x128) ![640, 0] S128x128.size inb_S1024x128_S128x128_640_0).toLoadRect g10) (pay99_at v12 h12) a t).trans (g_row M α γ 5 (by decide) 640 rfl (View.readAt (Elt Ideal) arg9.view (Rect.unit (s := S1024x1024) ![640, 0] S128x1024.size inb_S1024x1024_S128x1024_640_0).toLoadRect g9) (View.readAt (Elt Ideal) arg10.view (Rect.unit (s := S1024x128) ![640, 0] S128x128.size inb_S1024x128_S128x128_640_0).toLoadRect g10) (View.readAt (Elt Ideal) arg11.view (Rect.unit (s := S1x1024) ![0, 0] S1x1024.size inb_S1x1024_S1x1024_0_0).toLoadRect g11) (fun a t => (readAt2 arg9.view g9 640 0 _ rfl a t (row 5 (by decide) a) t rfl (Nat.zero_add _).symm).trans (h9 _ t)) (fun a b => (readAt2 arg10.view g10 640 0 _ rfl a b (row 5 (by decide) a) b rfl (Nat.zero_add _).symm).trans (h10 _ b)) (r11_at arg11 g11 γ h11) a t)
theorem grow6 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (a : Fin 128) (t : Fin 1024) : (k0_pay108 (k0_pay107 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![768, 0] S128x1024.size inb_S1024x1024_S128x1024_768_0).toLoadRect g9) (View.readAt (Elt Ideal) arg10.view (Rect.unit (s := S1024x128) ![768, 0] S128x128.size inb_S1024x128_S128x128_768_0).toLoadRect g10))) (ix2 a t) = Inp.G M α γ (row 6 (by decide) a) t :=
  ((pay108_at _ a t).trans (pay107_at (View.readAt (Elt Ideal) arg11.view (Rect.unit (s := S1x1024) ![0, 0] S1x1024.size inb_S1x1024_S1x1024_0_0).toLoadRect g11) _ (View.readAt (Elt Ideal) arg9.view (Rect.unit (s := S1024x1024) ![768, 0] S128x1024.size inb_S1024x1024_S128x1024_768_0).toLoadRect g9) (View.readAt (Elt Ideal) arg10.view (Rect.unit (s := S1024x128) ![768, 0] S128x128.size inb_S1024x128_S128x128_768_0).toLoadRect g10) (pay99_at v12 h12) a t)).trans (g_row M α γ 6 (by decide) 768 rfl (View.readAt (Elt Ideal) arg9.view (Rect.unit (s := S1024x1024) ![768, 0] S128x1024.size inb_S1024x1024_S128x1024_768_0).toLoadRect g9) (View.readAt (Elt Ideal) arg10.view (Rect.unit (s := S1024x128) ![768, 0] S128x128.size inb_S1024x128_S128x128_768_0).toLoadRect g10) (View.readAt (Elt Ideal) arg11.view (Rect.unit (s := S1x1024) ![0, 0] S1x1024.size inb_S1x1024_S1x1024_0_0).toLoadRect g11) (fun a t => (readAt2 arg9.view g9 768 0 _ rfl a t (row 6 (by decide) a) t rfl (Nat.zero_add _).symm).trans (h9 _ t)) (fun a b => (readAt2 arg10.view g10 768 0 _ rfl a b (row 6 (by decide) a) b rfl (Nat.zero_add _).symm).trans (h10 _ b)) (r11_at arg11 g11 γ h11) a t)
theorem grow7 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (a : Fin 128) (t : Fin 1024) : (k0_pay109 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![896, 0] S128x1024.size inb_S1024x1024_S128x1024_896_0).toLoadRect g9) (View.readAt (Elt Ideal) arg10.view (Rect.unit (s := S1024x128) ![896, 0] S128x128.size inb_S1024x128_S128x128_896_0).toLoadRect g10)) (ix2 a t) = Inp.G M α γ (row 7 (by decide) a) t :=
  (pay109_at (View.readAt (Elt Ideal) arg11.view (Rect.unit (s := S1x1024) ![0, 0] S1x1024.size inb_S1x1024_S1x1024_0_0).toLoadRect g11) _ (View.readAt (Elt Ideal) arg9.view (Rect.unit (s := S1024x1024) ![896, 0] S128x1024.size inb_S1024x1024_S128x1024_896_0).toLoadRect g9) (View.readAt (Elt Ideal) arg10.view (Rect.unit (s := S1024x128) ![896, 0] S128x128.size inb_S1024x128_S128x128_896_0).toLoadRect g10) (pay99_at v12 h12) a t).trans (g_row M α γ 7 (by decide) 896 rfl (View.readAt (Elt Ideal) arg9.view (Rect.unit (s := S1024x1024) ![896, 0] S128x1024.size inb_S1024x1024_S128x1024_896_0).toLoadRect g9) (View.readAt (Elt Ideal) arg10.view (Rect.unit (s := S1024x128) ![896, 0] S128x128.size inb_S1024x128_S128x128_896_0).toLoadRect g10) (View.readAt (Elt Ideal) arg11.view (Rect.unit (s := S1x1024) ![0, 0] S1x1024.size inb_S1x1024_S1x1024_0_0).toLoadRect g11) (fun a t => (readAt2 arg9.view g9 896 0 _ rfl a t (row 7 (by decide) a) t rfl (Nat.zero_add _).symm).trans (h9 _ t)) (fun a b => (readAt2 arg10.view g10 896 0 _ rfl a b (row 7 (by decide) a) b rfl (Nat.zero_add _).symm).trans (h10 _ b)) (r11_at arg11 g11 γ h11) a t)

set_option maxHeartbeats 1000000 in
theorem grad13 (arg9 : Memref sig .tc .vmem S1024x1024 .f32) (arg10 : Memref sig .tc .vmem S1024x128 .f32) (arg11 : Memref sig .tc .vmem S1x1024 .f32) (g9 : BufTy.Contents (Elt Ideal) arg9.view.ty) (g10 : BufTy.Contents (Elt Ideal) arg10.view.ty) (g11 : BufTy.Contents (Elt Ideal) arg11.view.ty)
    (v12 : IVec S128x128 1) (h12 : ∀ a b, v12 (ix2 a b) = if a = b then 1#1 else 0#1) (M : Fin 1024 → Fin 1024 → EReal) (α γ : Fin 1024 → EReal)
    (h9 : ∀ r t, arg9.view.read (Elt Ideal) g9 (ix2 r t) = M r t) (h10 : ∀ r b, arg10.view.read (Elt Ideal) g10 (ix2 r b) = α r) (h11 : ∀ t, arg11.view.read (Elt Ideal) g11 (ix2 0 t) = γ t) (arg13 : Memref sig .tc .vmem S1024x1024 .bf16) (f13 : BufTy.Contents (Elt Ideal) arg13.view.ty) (r t : Fin 1024) :
    (View.readAt (Elt Ideal) arg13.view (Rect.unit (s := S1024x1024) ![0, 0] S1024x1024.size inb_S1024x1024_S1024x1024_0_0).toLoadRect (arg13.view.writes (Elt Ideal) f13 [⟨Rect.unit (s := S1024x1024) ![896, 0] S128x1024.size inb_S1024x1024_S128x1024_896_0, (k0_pay109 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![896, 0] S128x1024.size inb_S1024x1024_S128x1024_896_0).toLoadRect g9) (View.readAt (Elt Ideal) arg10.view (Rect.unit (s := S1024x128) ![896, 0] S128x128.size inb_S1024x128_S128x128_896_0).toLoadRect g10))⟩, ⟨Rect.unit (s := S1024x1024) ![768, 0] S128x1024.size inb_S1024x1024_S128x1024_768_0, (k0_pay108 (k0_pay107 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![768, 0] S128x1024.size inb_S1024x1024_S128x1024_768_0).toLoadRect g9) (View.readAt (Elt Ideal) arg10.view (Rect.unit (s := S1024x128) ![768, 0] S128x128.size inb_S1024x128_S128x128_768_0).toLoadRect g10)))⟩, ⟨Rect.unit (s := S1024x1024) ![640, 0] S128x1024.size inb_S1024x1024_S128x1024_640_0, (k0_pay106 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![640, 0] S128x1024.size inb_S1024x1024_S128x1024_640_0).toLoadRect g9) (View.readAt (Elt Ideal) arg10.view (Rect.unit (s := S1024x128) ![640, 0] S128x128.size inb_S1024x128_S128x128_640_0).toLoadRect g10))⟩, ⟨Rect.unit (s := S1024x1024) ![512, 0] S128x1024.size inb_S1024x1024_S128x1024_512_0, (k0_pay105 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![512, 0] S128x1024.size inb_S1024x1024_S128x1024_512_0).toLoadRect g9) (View.readAt (Elt Ideal) arg10.view (Rect.unit (s := S1024x128) ![512, 0] S128x128.size inb_S1024x128_S128x128_512_0).toLoadRect g10))⟩, ⟨Rect.unit (s := S1024x1024) ![384, 0] S128x1024.size inb_S1024x1024_S128x1024_384_0, (k0_pay104 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![384, 0] S128x1024.size inb_S1024x1024_S128x1024_384_0).toLoadRect g9) (View.readAt (Elt Ideal) arg10.view (Rect.unit (s := S1024x128) ![384, 0] S128x128.size inb_S1024x128_S128x128_384_0).toLoadRect g10))⟩, ⟨Rect.unit (s := S1024x1024) ![256, 0] S128x1024.size inb_S1024x1024_S128x1024_256_0, (k0_pay103 (View.readAt (Elt Ideal) arg11.view (Rect.unit (s := S1x1024) ![0, 0] S1x1024.size inb_S1x1024_S1x1024_0_0).toLoadRect g11) (k0_pay99 (F := Ideal) v12) (View.readAt (Elt Ideal) arg9.view (Rect.unit (s := S1024x1024) ![256, 0] S128x1024.size inb_S1024x1024_S128x1024_256_0).toLoadRect g9) (View.readAt (Elt Ideal) arg10.view (Rect.unit (s := S1024x128) ![256, 0] S128x128.size inb_S1024x128_S128x128_256_0).toLoadRect g10))⟩, ⟨Rect.unit (s := S1024x1024) ![128, 0] S128x1024.size inb_S1024x1024_S128x1024_128_0, (k0_pay102 (k0_pay99 (F := Ideal) v12) (View.readAt (Elt Ideal) arg9.view (Rect.unit (s := S1024x1024) ![128, 0] S128x1024.size inb_S1024x1024_S128x1024_128_0).toLoadRect g9) (k0_pay101 (View.readAt (Elt Ideal) arg11.view (Rect.unit (s := S1x1024) ![0, 0] S1x1024.size inb_S1x1024_S1x1024_0_0).toLoadRect g11) (View.readAt (Elt Ideal) arg10.view (Rect.unit (s := S1024x128) ![128, 0] S128x128.size inb_S1024x128_S128x128_128_0).toLoadRect g10)))⟩, ⟨Rect.unit (s := S1024x1024) ![0, 0] S128x1024.size inb_S1024x1024_S128x1024_0_0, (k0_pay100 v12 (View.readAt (Elt Ideal) arg11.view (Rect.unit (s := S1x1024) ![0, 0] S1x1024.size inb_S1x1024_S1x1024_0_0).toLoadRect g11) (View.readAt (Elt Ideal) arg9.view (Rect.unit (s := S1024x1024) ![0, 0] S128x1024.size inb_S1024x1024_S128x1024_0_0).toLoadRect g9) (View.readAt (Elt Ideal) arg10.view (Rect.unit (s := S1024x128) ![0, 0] S128x128.size inb_S1024x128_S128x128_0_0).toLoadRect g10))⟩])) (ix2 r t) = Inp.G M α γ r t :=
  (readAt2 arg13.view _ 0 0 inb_S1024x1024_S1024x1024_0_0 rfl r t r t (Nat.zero_add _).symm (Nat.zero_add _).symm).trans
    (rows8 arg13.view f13 (Inp.G M α γ) _ _ (grow0 arg9 arg10 arg11 g9 g10 g11 v12 h12 M α γ h9 h10 h11) _ _ (grow1 arg9 arg10 arg11 g9 g10 g11 v12 h12 M α γ h9 h10 h11) _ _ (grow2 arg9 arg10 arg11 g9 g10 g11 v12 h12 M α γ h9 h10 h11) _ _ (grow3 arg9 arg10 arg11 g9 g10 g11 v12 h12 M α γ h9 h10 h11) _ _ (grow4 arg9 arg10 arg11 g9 g10 g11 v12 h12 M α γ h9 h10 h11) _ _ (grow5 arg9 arg10 arg11 g9 g10 g11 v12 h12 M α γ h9 h10 h11) _ _ (grow6 arg9 arg10 arg11 g9 g10 g11 v12 h12 M α γ h9 h10 h11) _ _ (grow7 arg9 arg10 arg11 g9 g10 g11 v12 h12 M α γ h9 h10 h11) r t)

/-- A whole store of a group's gradient, read back. -/
theorem whole3 (v : Memref sig .tc .vmem S1x1024x256 .bf16) (f : BufTy.Contents (Elt Ideal) v.view.ty) (w : FVec Ideal S1x1024x256 .bf16) (inb : ∀ a, (![0, 0, 0] : Fin 3 → ℕ) a + (![1, 1024, 256] : Fin 3 → ℕ) a ≤ (![1, 1024, 256] : Fin 3 → ℕ) a) (r : Fin 1024) (d : Fin 256) :
    v.view.read (Elt Ideal) (v.view.writes (Elt Ideal) f [⟨Rect.unit (s := S1x1024x256) ![0, 0, 0] ![1, 1024, 256] inb, w⟩]) (ix3 0 r d) = w (ix3 0 r d) := by
  refine View.read_writes_cons_unit_of_mem v.view f inb w [] _ (ix3 0 r d) rfl fun x => ?_
  match x with
  | ⟨0, _⟩ => rfl
  | ⟨1, _⟩ => exact (Nat.zero_add _).symm
  | ⟨2, _⟩ => exact (Nat.zero_add _).symm

theorem du_at (I : Inp) (g : Fin 1024 → Fin 1024 → EReal) (v528 : Vec Ideal S1x1024x256 .fp8e4m3) (v3 : Vec Ideal S1x1024 .f32) (v574 : Vec Ideal S1024x1024 .bf16)
    (h : ∀ r t, v574 (ix2 r t) = g r t) (h5 : ∀ t d, v528 (ix3 0 t d) = I.vc t d) (h3 : ∀ t, v3 (ix2 0 t) = I.vs t) (r : Fin 1024) (d : Fin 256) :
    k0_pay119 (k0_pay110 v528) (k0_pay111 v3) (k0_pay112 v3) (k0_pay113 v3) (k0_pay114 v3) (k0_pay115 v3) (k0_pay116 v3) (k0_pay117 v3) (k0_pay118 v3) v574 (ix3 0 r d) = I.du g r d := by
  rw [pay119_at]
  simp only [h, h5, h3]
  rfl
theorem dv_at (I : Inp) (g : Fin 1024 → Fin 1024 → EReal) (v567 : Vec Ideal S1x1024x256 .fp8e4m3) (v570 : Vec Ideal S1024x128 .f32) (v574 : Vec Ideal S1024x1024 .bf16)
    (h : ∀ r t, v574 (ix2 r t) = g r t) (h4 : ∀ t d, v567 (ix3 0 t d) = I.uc t d) (h12 : ∀ r b, v570 (ix2 r b) = I.us r) (r : Fin 1024) (d : Fin 256) :
    k0_pay120 v567 v570 v574 (ix3 0 r d) = I.dv g r d := by
  rw [pay120_at v567 v570 v574 I.us h12]
  simp only [h, h4]
  rfl

end Cert.KernelIdeal.Hand

end
-- ==== Proof.KernelIdealBody.lean ====
/- The body of the kernel at one grid point, over the extended reals: what it leaves in its three output buffers. -/
module

public import proofs.«01_k».proof.Proof.KernelIdealBranch
public import proofs.«01_k».proof.Proof.KernelIdealGradVals
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.RowReads Cert.Chunks Cert.Group

local notation "𝕄" => MT nD τ sig Unit (Elt Ideal) ℕ (UR sig nD τ) ℕ

theorem branch_vals (I : Inp) (arg4 : Memref sig .tc .vmem S1x1024x256 .fp8e4m3) (arg5 : Memref sig .tc .vmem S1x1024x256 .fp8e4m3) (arg12 : Memref sig .tc .vmem S1024x128 .f32) (X4 : BufTy.Contents (Elt Ideal) arg4.view.ty) (X5 : BufTy.Contents (Elt Ideal) arg5.view.ty) (X12 : BufTy.Contents (Elt Ideal) arg12.view.ty) (v7 v9 : FVec Ideal S1x1024 .f32)
    (h4 : ∀ r d, arg4.view.read (Elt Ideal) X4 (ix3 0 r d) = I.uc r d) (h5 : ∀ r d, arg5.view.read (Elt Ideal) X5 (ix3 0 r d) = I.vc r d) (hX12 : ∀ r b, arg12.view.read (Elt Ideal) X12 (ix2 r b) = I.us r)
    (h7 : ∀ t, v7 (ix2 0 t) = I.q t) (h9 : ∀ t, v9 (ix2 0 t) = I.vs t * κ20) (Y12 : BufTy.Contents (Elt Ideal) arg12.view.ty) (hY12 : ∀ r b, arg12.view.read (Elt Ideal) Y12 (ix2 r b) = I.us r) (v12 : IVec S128x128 1) (h12 : ∀ a b, v12 (ix2 a b) = if a = b then 1#1 else 0#1) (arg9 : Memref sig .tc .vmem S1024x1024 .f32) (arg10 : Memref sig .tc .vmem S1024x128 .f32) (arg11 : Memref sig .tc .vmem S1x1024 .f32) (arg15 : Memref sig .tc .vmem S1x1024 .f32) (arg16 : Memref sig .tc .vmem S1x1024 .f32)
    (f9 : BufTy.Contents (Elt Ideal) arg9.view.ty) (f10 : BufTy.Contents (Elt Ideal) arg10.view.ty) (f11 : BufTy.Contents (Elt Ideal) arg11.view.ty) (f15 : BufTy.Contents (Elt Ideal) arg15.view.ty) (f16 : BufTy.Contents (Elt Ideal) arg16.view.ty) (g9 : BufTy.Contents (Elt Ideal) arg9.view.ty) (g10 : BufTy.Contents (Elt Ideal) arg10.view.ty) (g11 : BufTy.Contents (Elt Ideal) arg11.view.ty) (g16 : BufTy.Contents (Elt Ideal) arg16.view.ty) (h15 : ∀ t : Fin 1024, arg15.view.read (Elt Ideal) f15 (ix2 0 t) = v7 (ix2 0 t))
    (hb : Branch arg4 arg5 arg9 arg10 arg11 arg12 arg15 arg16 v7 v9 v12 X4 X5 X12 f15 (arg9.view.writes (Elt Ideal) f9 [⟨Rect.unit (s := S1024x1024) ![896, 0] S128x1024.size inb_S1024x1024_S128x1024_896_0, (k0_pay73 v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect Y12))⟩, ⟨Rect.unit (s := S1024x1024) ![768, 0] S128x1024.size inb_S1024x1024_S128x1024_768_0, (k0_pay64 v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect Y12))⟩, ⟨Rect.unit (s := S1024x1024) ![640, 0] S128x1024.size inb_S1024x1024_S128x1024_640_0, (k0_pay56 v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect Y12))⟩, ⟨Rect.unit (s := S1024x1024) ![512, 0] S128x1024.size inb_S1024x1024_S128x1024_512_0, (k0_pay48 v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect Y12))⟩, ⟨Rect.unit (s := S1024x1024) ![384, 0] S128x1024.size inb_S1024x1024_S128x1024_384_0, (k0_pay39 v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect Y12))⟩, ⟨Rect.unit (s := S1024x1024) ![256, 0] S128x1024.size inb_S1024x1024_S128x1024_256_0, (k0_pay30 v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect Y12))⟩, ⟨Rect.unit (s := S1024x1024) ![128, 0] S128x1024.size inb_S1024x1024_S128x1024_128_0, (k0_pay21 v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect Y12))⟩, ⟨Rect.unit (s := S1024x1024) ![0, 0] S128x1024.size inb_S1024x1024_S128x1024_0_0, (k0_pay11 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect Y12))⟩]) g9 (arg10.view.writes (Elt Ideal) f10 [⟨Rect.unit (s := S1024x128) ![896, 0] S128x128.size inb_S1024x128_S128x128_896_0, (k0_pay76 v9 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect Y12))⟩, ⟨Rect.unit (s := S1024x128) ![768, 0] S128x128.size inb_S1024x128_S128x128_768_0, (k0_pay67 v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect Y12))⟩, ⟨Rect.unit (s := S1024x128) ![640, 0] S128x128.size inb_S1024x128_S128x128_640_0, (k0_pay59 v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect Y12))⟩, ⟨Rect.unit (s := S1024x128) ![512, 0] S128x128.size inb_S1024x128_S128x128_512_0, (k0_pay51 v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect Y12))⟩, ⟨Rect.unit (s := S1024x128) ![384, 0] S128x128.size inb_S1024x128_S128x128_384_0, (k0_pay42 v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect Y12))⟩, ⟨Rect.unit (s := S1024x128) ![256, 0] S128x128.size inb_S1024x128_S128x128_256_0, (k0_pay33 v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect Y12))⟩, ⟨Rect.unit (s := S1024x128) ![128, 0] S128x128.size inb_S1024x128_S128x128_128_0, (k0_pay24 v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect Y12))⟩, ⟨Rect.unit (s := S1024x128) ![0, 0] S128x128.size inb_S1024x128_S128x128_0_0, (k0_pay14 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect Y12))⟩]) g10
      (arg11.view.writes (Elt Ideal) f11 [⟨Rect.unit (s := S1x1024) ![0, 0] S1x1024.size inb_S1x1024_S1x1024_0_0, k0_pay80 (k0_pay74 v9 (k0_pay8 v7 k0_pay7) (k0_pay65 v9 (k0_pay8 v7 k0_pay7) (k0_pay57 v9 (k0_pay8 v7 k0_pay7) (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect Y12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect Y12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect Y12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect Y12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect Y12)) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect Y12)) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect Y12)) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect Y12))⟩]) g11 (arg16.view.writes (Elt Ideal) f16 [⟨Rect.unit (s := S1x1024) ![0, 0] S1x1024.size inb_S1x1024_S1x1024_0_0, k0_pay82 (k0_pay17 v12 (k0_pay15 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect Y12)) k0_pay16) (k0_pay18 v12 (k0_pay13 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect Y12))) (k0_pay26 (k0_pay25 v9 v12 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect Y12))) (k0_pay27 v12 (k0_pay23 v9 (k0_pay8 v7 k0_pay7) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect Y12))) (k0_pay35 (k0_pay34 v9 v12 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect Y12))) (k0_pay36 v12 (k0_pay32 v9 (k0_pay8 v7 k0_pay7) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect Y12))) (k0_pay44 (k0_pay43 v9 v12 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect Y12))) (k0_pay45 v12 (k0_pay41 v9 (k0_pay8 v7 k0_pay7) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect Y12))) (k0_pay52 v9 v12 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect Y12)) (k0_pay53 v12 (k0_pay50 v9 (k0_pay8 v7 k0_pay7) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect Y12))) (k0_pay60 v9 v12 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect Y12)) (k0_pay61 v12 (k0_pay58 v9 (k0_pay8 v7 k0_pay7) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect Y12)) (Scalar.ofBits .f32 0x00000000#32)) (k0_pay68 v9 v12 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect Y12)) (k0_pay70 v12 (k0_pay66 v9 (k0_pay8 v7 k0_pay7) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect Y12)) k0_pay69) (k0_pay74 v9 (k0_pay8 v7 k0_pay7) (k0_pay65 v9 (k0_pay8 v7 k0_pay7) (k0_pay57 v9 (k0_pay8 v7 k0_pay7) (k0_pay49 v9 (k0_pay8 v7 k0_pay7) (k0_pay40 v9 (k0_pay8 v7 k0_pay7) (k0_pay31 v9 (k0_pay8 v7 k0_pay7) (k0_pay22 v9 (k0_pay8 v7 k0_pay7) (k0_pay12 v7 v9 k0_pay7 (View.readAt (Elt Ideal) arg4.view (Rect.unit (s := S1x1024x256) ![0, 0, 0] S1x128x256.size inb_S1x1024x256_S1x128x256_0_0_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![0, 0] S128x128.size inb_S1024x128_S128x128_0_0).toLoadRect Y12)) (View.readAt (Elt Ideal) arg4.view (Rect.unit (s := S1x1024x256) ![0, 128, 0] S1x128x256.size inb_S1x1024x256_S1x128x256_0_128_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![128, 0] S128x128.size inb_S1024x128_S128x128_128_0).toLoadRect Y12)) (View.readAt (Elt Ideal) arg4.view (Rect.unit (s := S1x1024x256) ![0, 256, 0] S1x128x256.size inb_S1x1024x256_S1x128x256_0_256_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![256, 0] S128x128.size inb_S1024x128_S128x128_256_0).toLoadRect Y12)) (View.readAt (Elt Ideal) arg4.view (Rect.unit (s := S1x1024x256) ![0, 384, 0] S1x128x256.size inb_S1x1024x256_S1x128x256_0_384_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![384, 0] S128x128.size inb_S1024x128_S128x128_384_0).toLoadRect Y12)) (View.readAt (Elt Ideal) arg4.view (Rect.unit (s := S1x1024x256) ![0, 512, 0] S1x128x256.size inb_S1x1024x256_S1x128x256_0_512_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![512, 0] S128x128.size inb_S1024x128_S128x128_512_0).toLoadRect Y12)) (View.readAt (Elt Ideal) arg4.view (Rect.unit (s := S1x1024x256) ![0, 640, 0] S1x128x256.size inb_S1x1024x256_S1x128x256_0_640_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![640, 0] S128x128.size inb_S1024x128_S128x128_640_0).toLoadRect Y12)) (View.readAt (Elt Ideal) arg4.view (Rect.unit (s := S1x1024x256) ![0, 768, 0] S1x128x256.size inb_S1x1024x256_S1x128x256_0_768_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![768, 0] S128x128.size inb_S1024x128_S128x128_768_0).toLoadRect Y12)) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect Y12)) (k0_pay77 v9 v12 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect Y12)) (k0_pay78 v9 v12 (k0_pay8 v7 k0_pay7) (View.readAt (Elt Ideal) arg4.view (Rect.unit (s := S1x1024x256) ![0, 896, 0] S1x128x256.size inb_S1x1024x256_S1x128x256_0_896_0).toLoadRect X4) (View.readAt (Elt Ideal) arg5.view (Rect.unit (s := S1x1024x256) ![0, 0, 0] S1x1024x256.size inb_S1x1024x256_S1x1024x256_0_0_0).toLoadRect X5) (View.readAt (Elt Ideal) arg12.view (Rect.unit (s := S1024x128) ![896, 0] S128x128.size inb_S1024x128_S128x128_896_0).toLoadRect Y12))⟩]) g16) :
    ∃ (M : Fin 1024 → Fin 1024 → EReal) (α γ L : Fin 1024 → EReal), (∀ r t, arg9.view.read (Elt Ideal) g9 (ix2 r t) = M r t) ∧ (∀ r b, arg10.view.read (Elt Ideal) g10 (ix2 r b) = α r)
      ∧ (∀ t, arg11.view.read (Elt Ideal) g11 (ix2 0 t) = γ t) ∧ (∀ t, arg16.view.read (Elt Ideal) g16 (ix2 0 t) = L t)
      ∧ (L = fastLoss I.X ∨ L = slowLoss I.S I.q) ∧ (Inp.G M α γ = I.fastG ∨ Inp.G M α γ = I.slowG) := by
  rcases hb with ⟨rfl, rfl, rfl, rfl⟩ | ⟨e9, e10, e11, e16⟩
  · exact ⟨_, _, _, _, fast9 I arg4 arg5 arg12 X4 X5 Y12 v7 v9 h4 h5 hY12 h7 h9 arg9 f9, fast10 I arg4 arg5 arg12 X4 X5 Y12 v7 v9 h4 h5 hY12 h7 h9 arg10 f10, fast11 I arg4 arg5 arg12 X4 X5 Y12 v7 v9 h4 h5 hY12 h7 h9 arg11 f11, fast16 I arg4 arg5 arg12 X4 X5 Y12 v7 v9 h4 h5 hY12 h7 h9 v12 h12 arg16 f16, .inl rfl, .inl rfl⟩
  · have hS : S1 arg4 arg5 arg12 v9 X4 X5 X12 = I.S := by
      funext r t
      unfold S1
      simp only [h4, h5, hX12, h9]
      rfl
    have hq : (fun t => v7 (ix2 0 t)) = I.q := funext h7
    rw [hS, hq] at e9 e16
    exact ⟨_, _, _, _, e9, e10, e11, e16 h12 h15, .inr rfl, .inr rfl⟩

/-- The group a grid point works on: its rows of the scales and offsets, and its two blocks of codes. -/
def inp (i : grid0.Coords) (x0 : Vec Ideal S16x1024 .f32) (x1 : Vec Ideal S16x1024 .f32) (x2 : Vec Ideal S16x1024 .f32) (x3 : Vec Ideal S1x1024x256 .fp8e4m3) (x4 : Vec Ideal S1x1024x256 .fp8e4m3) : Inp :=
  ⟨fun r d => x3 (ix3 0 r d), fun r d => x4 (ix3 0 r d), fun t => x0 (ix2 (i 0) t), fun t => x1 (ix2 (i 0) t), fun t => x2 (ix2 (i 0) t)⟩

/-- The loss buffer after the body: the group's row is its loss, the other rows as they were. -/
def LossOf (i : grid0.Coords) (x0 : Vec Ideal S16x1024 .f32) (x1 : Vec Ideal S16x1024 .f32) (x2 : Vec Ideal S16x1024 .f32) (x3 : Vec Ideal S1x1024x256 .fp8e4m3) (x4 : Vec Ideal S1x1024x256 .fp8e4m3) (Y X : Vec Ideal S16x1024 .f32) : Prop :=
  ∃ L, (L = fastLoss (inp i x0 x1 x2 x3 x4).X ∨ L = slowLoss (inp i x0 x1 x2 x3 x4).S (inp i x0 x1 x2 x3 x4).q)
    ∧ ∀ (r : Fin 16) (t : Fin 1024), X (ix2 r t) = if r.val = (i 0).val then L t else Y (ix2 r t)
/-- The row gradients' block after the body. -/
def DuOf (i : grid0.Coords) (x0 : Vec Ideal S16x1024 .f32) (x1 : Vec Ideal S16x1024 .f32) (x2 : Vec Ideal S16x1024 .f32) (x3 : Vec Ideal S1x1024x256 .fp8e4m3) (x4 : Vec Ideal S1x1024x256 .fp8e4m3) (X : Vec Ideal S1x1024x256 .bf16) : Prop :=
  ∃ g, (g = (inp i x0 x1 x2 x3 x4).fastG ∨ g = (inp i x0 x1 x2 x3 x4).slowG)
    ∧ ∀ r d, X (ix3 0 r d) = (inp i x0 x1 x2 x3 x4).du g r d
/-- The column gradients' block after the body. -/
def DvOf (i : grid0.Coords) (x0 : Vec Ideal S16x1024 .f32) (x1 : Vec Ideal S16x1024 .f32) (x2 : Vec Ideal S16x1024 .f32) (x3 : Vec Ideal S1x1024x256 .fp8e4m3) (x4 : Vec Ideal S1x1024x256 .fp8e4m3) (X : Vec Ideal S1x1024x256 .bf16) : Prop :=
  ∃ g, (g = (inp i x0 x1 x2 x3 x4).fastG ∨ g = (inp i x0 x1 x2 x3 x4).slowG)
    ∧ ∀ r d, X (ix3 0 r d) = (inp i x0 x1 x2 x3 x4).dv g r d

theorem row_at (v : Memref sig .tc .vmem S16x1024 .f32) (f : BufTy.Contents (Elt Ideal) v.view.ty) (i : grid0.Coords) (t : Fin 1024) :
    View.readAt (Elt Ideal) v.view (Rect.unit (s := S16x1024) (k0_off1 i) S1x1024.size (k0_off1_inb i)).toLoadRect f (ix2 0 t) = v.view.read (Elt Ideal) f (ix2 (i 0) t) :=
  readAt2 v.view f (i 0).val 0 _ (k0_off1_eq i) 0 t (i 0) t rfl (Nat.zero_add _).symm

theorem loss_row (v : Memref sig .tc .vmem S16x1024 .f32) (f : BufTy.Contents (Elt Ideal) v.view.ty) (w : FVec Ideal S1x1024 .f32) (i : grid0.Coords) (r : Fin 16) (t : Fin 1024) :
    v.view.read (Elt Ideal) (v.view.writes (Elt Ideal) f [⟨Rect.unit (s := S16x1024) (k0_off11 i) S1x1024.size (k0_off11_inb i), w⟩]) (ix2 r t) = if r.val = (i 0).val then w (ix2 0 t) else v.view.read (Elt Ideal) f (ix2 r t) := by
  by_cases h : r.val = (i 0).val
  · rw [if_pos h]
    exact read_writes2_in v.view f (i 0).val 0 _ (k0_off11_eq i) w [] r t 0 t h (Nat.zero_add _).symm
  · rw [if_neg h]
    exact (read_writes2_out v.view f (i 0).val 0 _ (k0_off11_eq i) w [] r t (by omega)).trans rfl

set_option maxHeartbeats 2000000 in
/-- The body, run once. -/
theorem body_vals (c : Dev nD) (i : grid0.Coords) (arg1 : Memref sig .tc .vmem S16x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1x1024x256 .fp8e4m3) (harg4 : arg4.IsWhole) (arg5 : Memref sig .tc .vmem S1x1024x256 .fp8e4m3) (harg5 : arg5.IsWhole) (arg6 : Memref sig .tc .vmem S16x1024 .f32) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1x1024 .f32) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1x1024 .f32) (harg15 : arg15.IsWhole) (arg16 : Memref sig .tc .vmem S1x1024 .f32) (harg16 : arg16.IsWhole) (x0 : Vec Ideal S16x1024 .f32) (x1 : Vec Ideal S16x1024 .f32) (x2 : Vec Ideal S16x1024 .f32) (x3 : Vec Ideal S1x1024x256 .fp8e4m3) (x4 : Vec Ideal S1x1024x256 .fp8e4m3) (Y5 : Vec Ideal S16x1024 .f32) (E : Set ℕ) (K : PUnit → sProp 𝕄) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare Y5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ X, ⌜LossOf i x0 x1 x2 x3 x4 Y5 X⌝ ∗ owns (c : Thread nD τ) arg6 fullShare X) ∗ (∃ X, ⌜DuOf i x0 x1 x2 x3 x4 X⌝ ∗ owns (c : Thread nD τ) arg7 fullShare X) ∗ (∃ X, ⌜DvOf i x0 x1 x2 x3 x4 X⌝ ∗ owns (c : Thread nD τ) arg8 fullShare X) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩)) : sProp 𝕄) ⊢ wp frame (wpE (defs₀ (F := Ideal)) Variants.none (c : Thread nD τ) none) E (cc0_inbatch_softmax (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inbatch_softmax_eq_skeleton]; unfold cc0_inbatch_softmax_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part13_eq_skeleton, k0_part14_eq_skeleton, k0_part15_eq_skeleton, k0_part16_eq_skeleton]
  unfold owns
  iintro ⟨⟨%f0, %hf0, H1⟩, ⟨%f1, %hf1, H2⟩, ⟨%f2, %hf2, H3⟩, ⟨%f3, %hf3, H4⟩, ⟨%f4, %hf4, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HK⟩
  obtain rfl := harg1.eq_unread hf0; obtain rfl := harg2.eq_unread hf1; obtain rfl := harg3.eq_unread hf2; obtain rfl := harg4.eq_unread hf3; obtain rfl := harg5.eq_unread hf4; obtain rfl := harg6.eq_unread hf6
  have hcut := part12_runs c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  sl_exec
  rename' g9k0_part12_0 => g9, g10k0_part12_1 => g10, g11k0_part12_2 => g11, g14k0_part12_3 => g14, g16k0_part12_4 => g16, hk0_part12_11 => hbr, hk0_part12_12 => hres
  have h1 : ∀ t, (View.readAt (Elt Ideal) arg1.view (Rect.unit (s := S16x1024) (k0_off1 i) S1x1024.size (k0_off1_inb i)).toLoadRect (harg1.unread x0)) (ix2 0 t) = (inp i x0 x1 x2 x3 x4).us t := fun t => (row_at arg1 _ i t).trans (by rw [harg1.read_unread]; rfl)
  have h2 : ∀ t, (View.readAt (Elt Ideal) arg2.view (Rect.unit (s := S16x1024) (k0_off1 i) S1x1024.size (k0_off1_inb i)).toLoadRect (harg2.unread x1)) (ix2 0 t) = (inp i x0 x1 x2 x3 x4).vs t := fun t => (row_at arg2 _ i t).trans (by rw [harg2.read_unread]; rfl)
  have h7 : ∀ t, k0_pay3 (View.readAt (Elt Ideal) arg3.view (Rect.unit (s := S16x1024) (k0_off1 i) S1x1024.size (k0_off1_inb i)).toLoadRect (harg3.unread x2)) (ix2 0 t) = (inp i x0 x1 x2 x3 x4).q t := fun t => (pay3_at _ t).trans (by rw [row_at arg3 _ i t, harg3.read_unread]; rfl)
  have h9 : ∀ t, k0_pay4 (View.readAt (Elt Ideal) arg2.view (Rect.unit (s := S16x1024) (k0_off1 i) S1x1024.size (k0_off1_inb i)).toLoadRect (harg2.unread x1)) (ix2 0 t) = (inp i x0 x1 x2 x3 x4).vs t * κ20 := fun t => (pay4_at _ t).trans (by rw [h2])
  have h4 : ∀ (r : Fin 1024) (d : Fin 256), arg4.view.read (Elt Ideal) (harg4.unread x3) (ix3 0 r d) = (inp i x0 x1 x2 x3 x4).uc r d := fun r d => by rw [harg4.read_unread]; rfl
  have h5 : ∀ (r : Fin 1024) (d : Fin 256), arg5.view.read (Elt Ideal) (harg5.unread x4) (ix3 0 r d) = (inp i x0 x1 x2 x3 x4).vc r d := fun r d => by rw [harg5.read_unread]; rfl
  have h12 : ∀ (r : Fin 1024) (b : Fin 128), arg12.view.read (Elt Ideal) (arg12.view.writes (Elt Ideal) f12 [⟨Rect.unit (s := S1024x128) ![0, 0] S1024x128.size inb_S1024x128_S1024x128_0_0, k0_pay6 (View.readAt (Elt Ideal) arg1.view (Rect.unit (s := S16x1024) (k0_off1 i) S1x1024.size (k0_off1_inb i)).toLoadRect (harg1.unread x0))⟩]) (ix2 r b) = (inp i x0 x1 x2 x3 x4).us r := fun r b =>
    (read_writes2_in arg12.view _ 0 0 inb_S1024x128_S1024x128_0_0 rfl _ [] r b r b (Nat.zero_add _).symm (Nat.zero_add _).symm).trans ((pay6_at _ r b).trans (h1 r))
  have hj : ∀ (r : Fin 1024) (b : Fin 128), arg12.view.read (Elt Ideal) (arg12.view.writes (Elt Ideal) arg12.view.junk [⟨Rect.unit (s := S1024x128) ![0, 0] S1024x128.size inb_S1024x128_S1024x128_0_0, k0_pay6 (View.readAt (Elt Ideal) arg1.view (Rect.unit (s := S16x1024) (k0_off1 i) S1x1024.size (k0_off1_inb i)).toLoadRect (harg1.unread x0))⟩]) (ix2 r b) = (inp i x0 x1 x2 x3 x4).us r := fun r b =>
    (read_writes2_in arg12.view _ 0 0 inb_S1024x128_S1024x128_0_0 rfl _ [] r b r b (Nat.zero_add _).symm (Nat.zero_add _).symm).trans ((pay6_at _ r b).trans (h1 r))
  obtain ⟨M, α, γ, L, e9, e10, e11, e16, hL, hG⟩ := branch_vals (inp i x0 x1 x2 x3 x4) arg4 arg5 arg12 (harg4.unread x3) (harg5.unread x4) (arg12.view.writes (Elt Ideal) f12 [⟨Rect.unit (s := S1024x128) ![0, 0] S1024x128.size inb_S1024x128_S1024x128_0_0, k0_pay6 (View.readAt (Elt Ideal) arg1.view (Rect.unit (s := S16x1024) (k0_off1 i) S1x1024.size (k0_off1_inb i)).toLoadRect (harg1.unread x0))⟩]) (k0_pay3 (View.readAt (Elt Ideal) arg3.view (Rect.unit (s := S16x1024) (k0_off1 i) S1x1024.size (k0_off1_inb i)).toLoadRect (harg3.unread x2))) (k0_pay4 (View.readAt (Elt Ideal) arg2.view (Rect.unit (s := S16x1024) (k0_off1 i) S1x1024.size (k0_off1_inb i)).toLoadRect (harg2.unread x1))) h4 h5 h12 h7 h9 (arg12.view.writes (Elt Ideal) arg12.view.junk [⟨Rect.unit (s := S1024x128) ![0, 0] S1024x128.size inb_S1024x128_S1024x128_0_0, k0_pay6 (View.readAt (Elt Ideal) arg1.view (Rect.unit (s := S16x1024) (k0_off1 i) S1x1024.size (k0_off1_inb i)).toLoadRect (harg1.unread x0))⟩]) hj
    k0_pay5 pay5_at arg9 arg10 arg11 arg15 arg16 f9 f10 f11 _ f16 g9 g10 g11 g16 (fun t => (read_writes2_in arg15.view f15 0 0 inb_S1x1024_S1x1024_0_0 rfl _ [] 0 t 0 t rfl (Nat.zero_add _).symm).trans (pay81_at _ t)) hbr
  simp only [PSigma.mk.injEq, heq_eq_eq] at hres
  obtain ⟨rfl, rfl, rfl, rfl⟩ := hres
  have e13 := grad13 arg9 arg10 arg11 g9 g10 g11 k0_pay5 pay5_at M α γ e9 e10 e11 arg13 arg13.view.junk
  sl_step
  iapply HK
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [Hk0_part12_0]
  · iexists _; isplitr; · ipureintro; exact harg4.read_unread _
    iexact Hk0_part12_0
  isplitl [Hk0_part12_1]
  · iexists _; isplitr; · ipureintro; exact harg5.read_unread _
    iexact Hk0_part12_1
  isplitl [Hk0_part12_2]
  · iexists _; isplitr; swap
    · iexists _; isplitr; swap; · iexact Hk0_part12_2
      ipureintro; rfl
    ipureintro
    refine ⟨L, hL, fun r t => (loss_row arg6 _ _ i r t).trans ?_⟩
    rw [harg6.read_unread]
    by_cases h : r.val = (i 0).val
    · rw [if_pos h, if_pos h]
      exact (readAt2 arg16.view g16 0 0 _ rfl 0 t 0 t rfl (Nat.zero_add _).symm).trans (e16 t)
    · rw [if_neg h, if_neg h]
  isplitl [H7]
  · iexists _; isplitr; swap
    · iexists _; isplitr; swap; · iexact H7
      ipureintro; rfl
    ipureintro
    exact ⟨_, hG, fun r d => (whole3 arg7 f7 _ inb_S1x1024x256_S1x1024x256_0_0_0 r d).trans (du_at _ _ _ _ _ e13 (whole5 (inp i x0 x1 x2 x3 x4) arg4 arg5 arg12 (harg4.unread x3) (harg5.unread x4) (arg12.view.writes (Elt Ideal) arg12.view.junk [⟨Rect.unit (s := S1024x128) ![0, 0] S1024x128.size inb_S1024x128_S1024x128_0_0, k0_pay6 (View.readAt (Elt Ideal) arg1.view (Rect.unit (s := S16x1024) (k0_off1 i) S1x1024.size (k0_off1_inb i)).toLoadRect (harg1.unread x0))⟩]) (k0_pay3 (View.readAt (Elt Ideal) arg3.view (Rect.unit (s := S16x1024) (k0_off1 i) S1x1024.size (k0_off1_inb i)).toLoadRect (harg3.unread x2))) (k0_pay4 (View.readAt (Elt Ideal) arg2.view (Rect.unit (s := S16x1024) (k0_off1 i) S1x1024.size (k0_off1_inb i)).toLoadRect (harg2.unread x1))) h4 h5 hj h7 h9) h2 r d)⟩
  isplitl [H8]
  · iexists _; isplitr; swap
    · iexists _; isplitr; swap; · iexact H8
      ipureintro; rfl
    ipureintro
    exact ⟨_, hG, fun r d => (whole3 arg8 f8 _ inb_S1x1024x256_S1x1024x256_0_0_0 r d).trans (dv_at _ _ _ _ _ e13
      (fun t d => (readAt3 arg4.view (harg4.unread x3) 0 0 0 inb_S1x1024x256_S1x1024x256_0_0_0 rfl 0 t d 0 t d rfl (Nat.zero_add _).symm (Nat.zero_add _).symm).trans (h4 t d))
      (fun t b => (readAt2 arg12.view _ 0 0 inb_S1024x128_S1024x128_0_0 rfl t b t b (Nat.zero_add _).symm (Nat.zero_add _).symm).trans (hj t b)) r d)⟩
  isplitl [Hk0_part12_3]
  · iexists _, _; isplitr; swap; · iexact Hk0_part12_3
    ipureintro; rfl
  isplitl [Hk0_part12_4]
  · iexists _, _; isplitr; swap; · iexact Hk0_part12_4
    ipureintro; rfl
  isplitl [Hk0_part12_5]
  · iexists _, _; isplitr; swap; · iexact Hk0_part12_5
    ipureintro; rfl
  isplitl [Hk0_part12_6]
  · iexists _, _; isplitr; swap; · iexact Hk0_part12_6
    ipureintro; rfl
  isplitl [Hk0_part12_7]
  · iexists _, _; isplitr; swap; · iexact Hk0_part12_7
    ipureintro; rfl
  isplitl [Hk0_part12_8]
  · iexists _, _; isplitr; swap; · iexact Hk0_part12_8
    ipureintro; rfl
  isplitl [Hk0_part12_9]
  · iexists _, _; isplitr; swap; · iexact Hk0_part12_9
    ipureintro; rfl
  iexists _, _; isplitr; swap; · iexact Hk0_part12_10
  ipureintro; rfl

end Cert.KernelIdeal.Hand

end
-- ==== Proof.KernelIdealSpec.lean ====
/- The kernel's run with the values of its outputs: each grid point leaves its group's row of losses and its two gradient blocks. -/
module

public import proofs.«01_k».proof.Proof.KernelIdealBody
public import proofs.«01_k».proof.Proof.KernelIdealPipe

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal.Gen

variable (m : (ℓ : Loc nD τ sig) → Buf (Elt Ideal) ℓ)

/-- What the body leaves at a point: its group's values. -/
def valRel : Rel Ideal where
  loss c t Y X := LossOf (grid0.coords t) (iblk m c 0 t) (iblk m c 1 t) (iblk m c 2 t) (iblk m c 3 t) (iblk m c 4 t) Y X
  du c t X := DuOf (grid0.coords t) (iblk m c 0 t) (iblk m c 1 t) (iblk m c 2 t) (iblk m c 3 t) (iblk m c 4 t) X
  dv c t X := DvOf (grid0.coords t) (iblk m c 0 t) (iblk m c 1 t) (iblk m c 2 t) (iblk m c 3 t) (iblk m c 4 t) X

theorem bodySpec_vals : BodySpec m (valRel m) := fun c t Y5 K => by
  unfold bodyAt0
  iintro ⟨H0, H1, H2, H3, H4, H5, H6, H7, HS0, HS1, HS2, HS3, HS4, HS5, HS6, HS7, HK⟩
  iapply (body_vals c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) Y5 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iexact HK

end Cert.KernelIdeal.Hand

end
-- ==== Proof.GroupReal.lean ====
/- One group on real inputs: the kernel's direct path and its fallback compute the same losses and the same gradient factors. -/
module

public import proofs.«01_k».proof.Proof.Group

@[expose] public section

noncomputable section

namespace Cert.Group

open Idealize.ShloMosaic

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A maximum of 1024 real numbers is a real number. -/
theorem sup_coe (f : Fin 1024 → ℝ) : ∃ x : ℝ, (Finset.univ.sup fun i => ((f i : ℝ) : EReal)) = (x : EReal) := by
  obtain ⟨i, -, h⟩ := Finset.exists_mem_eq_sup Finset.univ ⟨0, Finset.mem_univ _⟩ (fun i => ((f i : ℝ) : EReal))
  exact ⟨f i, h⟩

abbrev κ : ℝ := (Real.log 2)⁻¹

theorem log2_pos : 0 < Real.log 2 := Real.log_pos (by norm_num)
theorem κ_mul : κ * Real.log 2 = 1 := inv_mul_cancel₀ log2_pos.ne'

theorem two_pow (x : ℝ) : Real.rpow 2 x = Real.exp (x * Real.log 2) := by
  rw [mul_comm]; exact Real.rpow_def_of_pos (by norm_num) x
theorem exp2_coe (x : ℝ) : Ideal.exp2 (x : EReal) = ((Real.exp (x * Real.log 2) : ℝ) : EReal) := by
  rw [← two_pow]; rfl
theorem exp_coe (x : ℝ) : Ideal.exp (x : EReal) = ((Real.exp x : ℝ) : EReal) := rfl
theorem log_coe {x : ℝ} (h : 0 < x) : Ideal.log (x : EReal) = ((Real.log x : ℝ) : EReal) := by
  show (if x ≤ 0 then (⊥ : EReal) else ((Real.log x : ℝ) : EReal)) = _
  rw [if_neg (not_le.mpr h)]
theorem div_one_coe {x : ℝ} (h : 0 < x) : Ideal.div 1 (x : EReal) = ((x⁻¹ : ℝ) : EReal) := by
  unfold Ideal.div
  rw [if_neg (by exact_mod_cast h.ne'), one_mul, ← EReal.coe_inv]

theorem sum_exp_pos (f : Fin 1024 → ℝ) : 0 < ∑ t, Real.exp (f t) :=
  Finset.sum_pos (fun _ _ => Real.exp_pos _) ⟨0, Finset.mem_univ _⟩

/-- A logarithm of a sum of exponentials does not depend on the constant taken off the exponents. -/
theorem lse_shift (f : Fin 1024 → ℝ) (m : ℝ) : Real.log (∑ t, Real.exp (f t - m)) = Real.log (∑ t, Real.exp (f t)) - m := by
  have h : (∑ t, Real.exp (f t - m)) = (∑ t, Real.exp (f t)) * Real.exp (-m) := by
    rw [Finset.sum_mul]
    exact Finset.sum_congr rfl fun t _ => by rw [← Real.exp_add]; rfl
  rw [h, Real.log_mul (sum_exp_pos f).ne' (Real.exp_pos _).ne', Real.log_exp]; rfl

/-- The same over the extended reals, to base e; -/
theorem lse_e (F : Fin 1024 → EReal) (f : Fin 1024 → ℝ) (hF : ∀ t, F t = ((f t : ℝ) : EReal)) (m : ℝ) :
    Ideal.log (∑ t, Ideal.exp (F t - (m : EReal))) = ((Real.log (∑ t, Real.exp (f t)) - m : ℝ) : EReal) := by
  simp only [hF, ← EReal.coe_sub, exp_coe, coe_sum]
  rw [log_coe (sum_exp_pos _), lse_shift]

/-- and to base two. -/
theorem lse_two (F : Fin 1024 → EReal) (f : Fin 1024 → ℝ) (hF : ∀ t, F t = ((f t * κ : ℝ) : EReal)) :
    (Finset.univ.sup F) + Ideal.log (∑ t, Ideal.exp2 (F t - Finset.univ.sup F)) * κ2 = ((Real.log (∑ t, Real.exp (f t)) * κ : ℝ) : EReal) := by
  obtain rfl : F = fun t => ((f t * κ : ℝ) : EReal) := funext hF
  obtain ⟨m, hm⟩ := sup_coe fun t => f t * κ
  rw [hm]
  simp only [← EReal.coe_sub, exp2_coe, coe_sum]
  have h : ∀ t, (f t * κ - m) * Real.log 2 = f t - m * Real.log 2 := fun t => by
    rw [sub_mul, mul_assoc, κ_mul, mul_one]
  simp only [h]
  rw [log_coe (sum_exp_pos _), lse_shift, ← EReal.coe_mul, ← EReal.coe_add]
  refine congrArg _ ?_
  rw [sub_mul, mul_assoc m, mul_comm (Real.log 2), κ_mul]; ring

section
variable (s : Fin 1024 → Fin 1024 → ℝ) (l : Fin 1024 → ℝ)

/-- A row's sum of exponentials, a column's, the loss of a row, and the factor both gradients are made of. -/
def rowsR (r : Fin 1024) : ℝ := ∑ t, Real.exp (s r t - l t)
def colsR (t : Fin 1024) : ℝ := ∑ r, Real.exp (s r t)
def lossR (t : Fin 1024) : ℝ := (Real.log (rowsR s l t) - (s t t - l t)) + (Real.log (colsR s t) - s t t)
def gR (r t : Fin 1024) : ℝ :=
  Real.exp (s r t - l t - Real.log (rowsR s l r)) + Real.exp (s r t - Real.log (colsR s t)) - if r = t then 2 else 0

theorem rows_pos (r : Fin 1024) : 0 < rowsR s l r := sum_exp_pos _
theorem cols_pos (t : Fin 1024) : 0 < colsR s t := sum_exp_pos _

theorem ite_coe (p : Prop) [Decidable p] : (if p then (2 : EReal) else 0) = ((if p then 2 else 0 : ℝ) : EReal) := by
  split <;> norm_cast

variable {s l} {S : Fin 1024 → Fin 1024 → EReal} {q : Fin 1024 → EReal}

theorem slowL_real (hS : ∀ r t, S r t = ((s r t * κ : ℝ) : EReal)) (hq : ∀ t, q t = ((l t * κ : ℝ) : EReal)) (r : Fin 1024) :
    slowL S q r = ((Real.log (rowsR s l r) * κ : ℝ) : EReal) :=
  lse_two (fun t => S r t - q t) (fun t => s r t - l t) fun t => by rw [hS, hq, ← EReal.coe_sub, sub_mul]
theorem slowC_real (hS : ∀ r t, S r t = ((s r t * κ : ℝ) : EReal)) (t : Fin 1024) :
    slowC S t = ((Real.log (colsR s t) * κ : ℝ) : EReal) :=
  lse_two (fun r => S r t) (fun r => s r t) fun r => hS r t

theorem slowLoss_real (hS : ∀ r t, S r t = ((s r t * κ : ℝ) : EReal)) (hq : ∀ t, q t = ((l t * κ : ℝ) : EReal)) (t : Fin 1024) :
    slowLoss S q t = ((lossR s l t : ℝ) : EReal) := by
  unfold slowLoss
  rw [slowL_real hS hq, slowC_real hS, hS, hq]
  simp only [← EReal.coe_sub, ← EReal.coe_add, ← EReal.coe_mul]
  congr 1
  unfold lossR
  have := κ_mul
  linear_combination ((Real.log (rowsR s l t) - (s t t - l t)) + (Real.log (colsR s t) - s t t)) * this

theorem slowG_real (hS : ∀ r t, S r t = ((s r t * κ : ℝ) : EReal)) (hq : ∀ t, q t = ((l t * κ : ℝ) : EReal)) (r t : Fin 1024) :
    Inp.G (slowF S q) (fun _ => 1) (fun _ => 0) r t = ((gR s l r t : ℝ) : EReal) := by
  unfold Inp.G slowF
  rw [slowL_real hS hq, slowC_real hS, hS, hq, ite_coe, add_zero, mul_one]
  simp only [← EReal.coe_sub, exp2_coe, ← EReal.coe_add]
  congr 1
  unfold gR
  congr 2
  · congr 1
    linear_combination (s r t - l t - Real.log (rowsR s l r)) * κ_mul
  · congr 1
    linear_combination (s r t - Real.log (colsR s t)) * κ_mul

variable {X : Fin 1024 → Fin 1024 → EReal} {K : ℝ}

theorem exp2X_real (hX : ∀ r t, X r t = ((s r t * κ - (l t * κ + K) : ℝ) : EReal)) (r t : Fin 1024) :
    Ideal.exp2 (X r t) = ((Real.exp (s r t - l t) * Real.exp (-(K * Real.log 2)) : ℝ) : EReal) := by
  rw [hX, exp2_coe, ← Real.exp_add]
  congr 2
  linear_combination (s r t - l t) * κ_mul

theorem rowSum_real (hX : ∀ r t, X r t = ((s r t * κ - (l t * κ + K) : ℝ) : EReal)) (r : Fin 1024) :
    rowSum X r = ((rowsR s l r * Real.exp (-(K * Real.log 2)) : ℝ) : EReal) := by
  unfold rowSum
  simp only [exp2X_real hX, coe_sum, ← Finset.sum_mul]
  rfl
theorem colSum_real (hX : ∀ r t, X r t = ((s r t * κ - (l t * κ + K) : ℝ) : EReal)) (t : Fin 1024) :
    colSum X t = ((colsR s t * (Real.exp (-l t) * Real.exp (-(K * Real.log 2))) : ℝ) : EReal) := by
  unfold colSum
  simp only [exp2X_real hX, coe_sum]
  congr 1
  unfold colsR
  rw [Finset.sum_mul]
  refine Finset.sum_congr rfl fun r _ => ?_
  rw [sub_eq_add_neg, Real.exp_add, mul_assoc]

theorem fastLoss_real (hX : ∀ r t, X r t = ((s r t * κ - (l t * κ + K) : ℝ) : EReal)) (t : Fin 1024) :
    fastLoss X t = ((lossR s l t : ℝ) : EReal) := by
  unfold fastLoss
  have hr := rows_pos s l t
  have hc := cols_pos s t
  have he := Real.exp_pos (-(K * Real.log 2))
  have hl := Real.exp_pos (-l t)
  rw [rowSum_real hX, colSum_real hX, hX, log_coe (mul_pos hr he), log_coe (mul_pos hc (mul_pos hl he)),
    Real.log_mul hr.ne' he.ne', Real.log_mul hc.ne' (mul_pos hl he).ne', Real.log_mul hl.ne' he.ne', Real.log_exp, Real.log_exp,
    show (2 : EReal) = ((2 : ℝ) : EReal) from rfl]
  simp only [← EReal.coe_sub, ← EReal.coe_add, ← EReal.coe_mul]
  congr 1
  unfold lossR
  linear_combination (Real.log (rowsR s l t) + Real.log (colsR s t) - l t - 2 * (s t t - l t) - 2 * K * Real.log 2) * κ_mul

theorem fastG_real (hX : ∀ r t, X r t = ((s r t * κ - (l t * κ + K) : ℝ) : EReal)) (r t : Fin 1024) :
    Inp.G (fun r t => Ideal.exp2 (X r t)) (fun r => Ideal.div 1 (rowSum X r)) (fun t => Ideal.div 1 (colSum X t)) r t = ((gR s l r t : ℝ) : EReal) := by
  unfold Inp.G
  have hr := rows_pos s l r
  have hc := cols_pos s t
  have he := Real.exp_pos (-(K * Real.log 2))
  have hl := Real.exp_pos (-l t)
  simp only []
  rw [rowSum_real hX, colSum_real hX, exp2X_real hX, div_one_coe (mul_pos hr he), div_one_coe (mul_pos hc (mul_pos hl he)), ite_coe]
  simp only [← EReal.coe_sub, ← EReal.coe_add, ← EReal.coe_mul]
  congr 1
  unfold gR
  congr 1
  rw [Real.exp_sub _ (Real.log (rowsR s l r)), Real.exp_sub _ (Real.log (colsR s t)), Real.exp_log hr, Real.exp_log hc, mul_add]
  congr 1
  · field_simp
  · rw [Real.exp_sub, Real.exp_neg (l t)]
    field_simp
end

namespace Inp
variable (I : Inp)

/-- The inputs are real numbers. -/
structure IsReal where
  uc : Fin 1024 → Fin 256 → ℝ
  vc : Fin 1024 → Fin 256 → ℝ
  us : Fin 1024 → ℝ
  vs : Fin 1024 → ℝ
  lq : Fin 1024 → ℝ
  huc : ∀ r d, I.uc r d = ((uc r d : ℝ) : EReal)
  hvc : ∀ r d, I.vc r d = ((vc r d : ℝ) : EReal)
  hus : ∀ r, I.us r = ((us r : ℝ) : EReal)
  hvs : ∀ r, I.vs r = ((vs r : ℝ) : EReal)
  hlq : ∀ r, I.lq r = ((lq r : ℝ) : EReal)

variable {I}

/-- The scaled products, as the real numbers they are. -/
def IsReal.s (h : I.IsReal) (r t : Fin 1024) : ℝ := (∑ k, h.uc r k * h.vc t k) * (h.us r * h.vs t) * 20

theorem IsReal.S_eq (h : I.IsReal) (r t : Fin 1024) : I.S r t = ((h.s r t * κ : ℝ) : EReal) := by
  unfold Inp.S IsReal.s
  simp only [h.huc, h.hvc, h.hus, h.hvs, ← EReal.coe_mul, coe_sum]
  congr 1
  ring
theorem IsReal.q_eq (h : I.IsReal) (t : Fin 1024) : I.q t = ((h.lq t * κ : ℝ) : EReal) := by
  unfold Inp.q
  rw [h.hlq, ← EReal.coe_mul]
theorem IsReal.X_eq (h : I.IsReal) : ∃ K : ℝ, ∀ r t, I.X r t = ((h.s r t * κ - (h.lq t * κ + K) : ℝ) : EReal) := by
  obtain ⟨x, hx⟩ := sup_coe fun t => 0 - h.lq t * κ
  refine ⟨x + 30, fun r t => ?_⟩
  have hs : I.shift = ((x + 30 : ℝ) : EReal) := by
    unfold Inp.shift
    rw [EReal.coe_add, ← hx]
    refine congrArg₂ HAdd.hAdd (congrArg (Finset.univ.sup) (funext fun t => by
    rw [h.q_eq, EReal.coe_sub]; rfl)) rfl
  unfold Inp.X
  rw [h.S_eq, h.q_eq, hs, ← EReal.coe_add, ← EReal.coe_sub]

/-- Either path's losses are the reference's real ones, -/
theorem IsReal.loss (h : I.IsReal) {L : Fin 1024 → EReal} (hL : L = fastLoss I.X ∨ L = slowLoss I.S I.q) (t : Fin 1024) :
    L t = ((lossR h.s h.lq t : ℝ) : EReal) := by
  rcases hL with rfl | rfl
  · obtain ⟨K, hK⟩ := h.X_eq
    exact fastLoss_real hK t
  · exact slowLoss_real h.S_eq h.q_eq t
/-- and so are either path's factors. -/
theorem IsReal.g (h : I.IsReal) {g : Fin 1024 → Fin 1024 → EReal} (hg : g = I.fastG ∨ g = I.slowG) :
    g = fun r t => ((gR h.s h.lq r t : ℝ) : EReal) := by
  funext r t
  rcases hg with rfl | rfl
  · obtain ⟨K, hK⟩ := h.X_eq
    exact fastG_real hK r t
  · exact slowG_real h.S_eq h.q_eq r t

end Inp
end Cert.Group

end
-- ==== Proof.KernelIdealArrays.lean ====
/- The kernel's three output arrays after its run, as functions of its arguments. -/
module

public import proofs.«01_k».proof.Proof.KernelIdealSpec
public import proofs.«01_k».proof.Proof.GroupReal
public import Idealize.ShloMosaic.Lib.Pipeline.ValueKit.Geometry
public import Idealize.ShloMosaic.Lib.Pipeline.ArrRel

@[expose] public section

set_option maxRecDepth 16384

noncomputable section

namespace Cert.KernelIdeal.Hand

open Idealize.ShloMosaic Idealize.ShloMosaic.TcCoe Cert.KernelIdeal Cert.KernelIdeal.Gen Cert.Group
open Idealize.ShloMosaic.Pipeline (Dat RDat Cfg Window)

variable (m : (ℓ : Loc nD τ sig) → Buf (Elt Ideal) ℓ)

/-! ## The arguments, and the blocks of them -/

/-- The codes reach the kernel unchanged: at exact reals a conversion is the identity. -/
theorem V_codes0 (c : Dev nD) : V m c main_v0 = m ((c : Thread nD τ).loc main_arg0) := by
  simp only [V, hostOps0, StableHlo.after_cons, StableHlo.after_nil]
  rfl
theorem V_codes1 (c : Dev nD) : V m c main_v1 = m ((c : Thread nD τ).loc main_arg2) := by
  simp only [V, hostOps0, StableHlo.after_cons, StableHlo.after_nil]
  rfl

/-- The arguments as launched. -/
abbrev a0 (c : Dev nD) : Vec Ideal S16x1024x256 .fp8e4m3 := m ((c : Thread nD τ).loc main_arg0)
abbrev a1 (c : Dev nD) : Vec Ideal S16x1024 .f32 := m ((c : Thread nD τ).loc main_arg1)
abbrev a2 (c : Dev nD) : Vec Ideal S16x1024x256 .fp8e4m3 := m ((c : Thread nD τ).loc main_arg2)
abbrev a3 (c : Dev nD) : Vec Ideal S16x1024 .f32 := m ((c : Thread nD τ).loc main_arg3)
abbrev a4 (c : Dev nD) : Vec Ideal S16x1024 .f32 := m ((c : Thread nD τ).loc main_arg4)

/-- One group of the arguments. -/
def grp (c : Dev nD) (g : Fin 16) : Inp :=
  ⟨fun r d => a0 m c (ix3 g r d), fun r d => a2 m c (ix3 g r d), fun t => a1 m c (ix2 g t), fun t => a3 m c (ix2 g t), fun t => a4 m c (ix2 g t)⟩

theorem coords_val : ∀ t : Fin grid0.N, ((grid0.coords t) 0).val = t.val := by decide +kernel

theorem idx0 : ∀ (t : Fin grid0.N) a, win0_0.index t a = 0 := by decide +kernel
theorem idx1 : ∀ (t : Fin grid0.N) a, win0_1.index t a = 0 := by decide +kernel
theorem idx2 : ∀ (t : Fin grid0.N) a, win0_2.index t a = 0 := by decide +kernel
theorem idx3 : ∀ (t : Fin grid0.N), win0_3.index t 0 = t.val ∧ win0_3.index t 1 = 0 ∧ win0_3.index t 2 = 0 := by decide +kernel
theorem idx4 : ∀ (t : Fin grid0.N), win0_4.index t 0 = t.val ∧ win0_4.index t 1 = 0 ∧ win0_4.index t 2 = 0 := by decide +kernel
theorem idx6 : ∀ (t : Fin grid0.N), win0_6.index t 0 = t.val ∧ win0_6.index t 1 = 0 ∧ win0_6.index t 2 = 0 := by decide +kernel
theorem idx7 : ∀ (t : Fin grid0.N), win0_7.index t 0 = t.val ∧ win0_7.index t 1 = 0 ∧ win0_7.index t 2 = 0 := by decide +kernel

theorem in0 (c : Dev nD) (t : Fin cfg0.N) : iblk m c 0 t = a1 m c :=
  (funext fun y => congrArg (V m c (Pipeline.arrRef spec0 0)) (funext fun a => Fin.ext (Window.rect_emb_val_of_index_zero (cfg0.win 0) t a (idx0 t a) y))).trans (V_main_arg1 m c)
theorem in1 (c : Dev nD) (t : Fin cfg0.N) : iblk m c 1 t = a3 m c :=
  (funext fun y => congrArg (V m c (Pipeline.arrRef spec0 1)) (funext fun a => Fin.ext (Window.rect_emb_val_of_index_zero (cfg0.win 1) t a (idx1 t a) y))).trans (V_main_arg3 m c)
theorem in2 (c : Dev nD) (t : Fin cfg0.N) : iblk m c 2 t = a4 m c :=
  (funext fun y => congrArg (V m c (Pipeline.arrRef spec0 2)) (funext fun a => Fin.ext (Window.rect_emb_val_of_index_zero (cfg0.win 2) t a (idx2 t a) y))).trans (V_main_arg4 m c)

/-- The group a grid point works on. -/
abbrev gof (t : Fin cfg0.N) : Fin 16 := (grid0.coords t) 0

theorem in3 (c : Dev nD) (t : Fin cfg0.N) (r : Fin 1024) (d : Fin 256) : iblk m c 3 t (ix3 (0 : Fin 1) r d) = a0 m c (ix3 (gof t) r d) := by
  refine Eq.trans ?_ (congrFun (V_codes0 m c) (ix3 (gof t) r d))
  refine congrArg (V m c (Pipeline.arrRef spec0 3)) (funext fun a => Fin.ext ?_)
  refine (Window.rect_emb_val (cfg0.win 3) t (ix3 (0 : Fin 1) r d) a).trans ?_
  match a with
  | ⟨0, _⟩ => show win0_3.index t 0 * 1 + 0 = ((grid0.coords t) 0).val; rw [(idx3 t).1, coords_val]; omega
  | ⟨1, _⟩ => show win0_3.index t 1 * 1024 + r.val = r.val; rw [(idx3 t).2.1]; omega
  | ⟨2, _⟩ => show win0_3.index t 2 * 256 + d.val = d.val; rw [(idx3 t).2.2]; omega
theorem in4 (c : Dev nD) (t : Fin cfg0.N) (r : Fin 1024) (d : Fin 256) : iblk m c 4 t (ix3 (0 : Fin 1) r d) = a2 m c (ix3 (gof t) r d) := by
  refine Eq.trans ?_ (congrFun (V_codes1 m c) (ix3 (gof t) r d))
  refine congrArg (V m c (Pipeline.arrRef spec0 4)) (funext fun a => Fin.ext ?_)
  refine (Window.rect_emb_val (cfg0.win 4) t (ix3 (0 : Fin 1) r d) a).trans ?_
  match a with
  | ⟨0, _⟩ => show win0_4.index t 0 * 1 + 0 = ((grid0.coords t) 0).val; rw [(idx4 t).1, coords_val]; omega
  | ⟨1, _⟩ => show win0_4.index t 1 * 1024 + r.val = r.val; rw [(idx4 t).2.1]; omega
  | ⟨2, _⟩ => show win0_4.index t 2 * 256 + d.val = d.val; rw [(idx4 t).2.2]; omega

/-- A point's blocks are its group of the arguments. -/
theorem inp_eq (c : Dev nD) (t : Fin cfg0.N) :
    inp (grid0.coords t) (iblk m c 0 t) (iblk m c 1 t) (iblk m c 2 t) (iblk m c 3 t) (iblk m c 4 t) = grp m c (gof t) := by
  unfold inp grp
  rw [in0, in1, in2]
  congr 1
  · funext r d; exact in3 m c t r d
  · funext r d; exact in4 m c t r d

/-! ## What a point leaves -/

/-- Either of the kernel's two ways to a loss. -/
def IsLoss (I : Inp) (L : Fin 1024 → EReal) : Prop := L = fastLoss I.X ∨ L = slowLoss I.S I.q
/-- Either of its two ways to the factor of the gradients. -/
def IsG (I : Inp) (g : Fin 1024 → Fin 1024 → EReal) : Prop := g = I.fastG ∨ g = I.slowG

theorem leaves5 (c : Dev nD) (t : Fin cfg0.N) (X) (h : (rdat m (valRel m) c).Leaves 5 t X) :
    ∃ Y, (rdat m (valRel m) c).Finds 5 t Y ∧ ∃ L, IsLoss (grp m c (gof t)) L
      ∧ ∀ (r : Fin 16) (j : Fin 1024), X (ix2 r j) = if r.val = (gof t).val then L j else Y (ix2 r j) := by
  obtain ⟨Y, hY, hX⟩ := h
  rw [after_5] at hX
  obtain ⟨L, hL, hX⟩ := hX
  rw [inp_eq] at hL
  exact ⟨Y, hY, L, hL, hX⟩
theorem leaves6 (c : Dev nD) (t : Fin cfg0.N) (X) (h : (rdat m (valRel m) c).Leaves 6 t X) :
    ∃ g, IsG (grp m c (gof t)) g ∧ ∀ (r : Fin 1024) (d : Fin 256), X (ix3 (0 : Fin 1) r d) = (grp m c (gof t)).du g r d := by
  obtain ⟨Y, hY, hX⟩ := h
  rw [after_6] at hX
  obtain ⟨g, hg, hX⟩ := hX
  rw [inp_eq] at hg hX
  exact ⟨g, hg, hX⟩
theorem leaves7 (c : Dev nD) (t : Fin cfg0.N) (X) (h : (rdat m (valRel m) c).Leaves 7 t X) :
    ∃ g, IsG (grp m c (gof t)) g ∧ ∀ (r : Fin 1024) (d : Fin 256), X (ix3 (0 : Fin 1) r d) = (grp m c (gof t)).dv g r d := by
  obtain ⟨Y, hY, hX⟩ := h
  rw [after_7] at hX
  obtain ⟨g, hg, hX⟩ := hX
  rw [inp_eq] at hg hX
  exact ⟨g, hg, hX⟩

theorem fetch5 (t : Fin cfg0.N) : (cfg0.win 5).fetch t = false := rfl
theorem noflush5 : ∀ t : Fin grid0.N, t.val ≠ 15 → win0_5.flush t = false := by decide +kernel

/-- The loss buffer after point `n` holds the losses of the groups up to `n`. -/
theorem loss_upto (c : Dev nD) : ∀ (n : Nat) (hn : n < cfg0.N) (X), (rdat m (valRel m) c).Leaves 5 ⟨n, hn⟩ X →
    ∀ r : Fin 16, r.val ≤ n → ∃ L, IsLoss (grp m c r) L ∧ ∀ j : Fin 1024, X (ix2 r j) = L j := by
  intro n
  induction n with
  | zero =>
    intro hn X hX r hr
    obtain ⟨Y, -, L, hL, hX⟩ := leaves5 m c _ X hX
    have e : r = gof ⟨0, hn⟩ := Fin.ext (by rw [coords_val]; show r.val = 0; omega)
    exact ⟨L, e ▸ hL, fun j => by rw [hX, if_pos (by rw [← e])]⟩
  | succ n ih =>
    intro hn X hX r hr
    obtain ⟨Y, hY, L, hL, hX⟩ := leaves5 m c _ X hX
    by_cases hrn : r.val = n + 1
    · have e : r = gof ⟨n + 1, hn⟩ := Fin.ext (by rw [coords_val]; exact hrn)
      exact ⟨L, e ▸ hL, fun j => by rw [hX, if_pos (by rw [← e])]⟩
    · have hne : r.val ≠ (gof ⟨n + 1, hn⟩).val := by rw [coords_val]; exact hrn
      rcases (Pipeline.RDat.finds_of_pos _ (fetch5 _) (Nat.succ_ne_zero n) Y).mp hY with hf | hl
      · exact absurd hf (by
          rw [show (cfg0.win 5).flush _ = false from noflush5 _ (by
            have : n + 1 < 16 := hn
            show n + 1 - 1 ≠ 15
            omega)]
          exact Bool.false_ne_true)
      · obtain ⟨L', hL', hY'⟩ := ih (Nat.lt_of_succ_lt hn) Y hl r (by omega)
        exact ⟨L', hL', fun j => by rw [hX, if_neg hne, hY']⟩

/-! ## The output arrays -/

theorem last_lt : 15 < cfg0.N := by decide
theorem lossWhole : (cfg0.win 5).WholeAt ⟨15, last_lt⟩ := by decide +kernel

theorem inj6 : ∀ t t' : Fin grid0.N, win0_6.index t = win0_6.index t' → t = t' := by decide +kernel
theorem inj7 : ∀ t t' : Fin grid0.N, win0_7.index t = win0_7.index t' → t = t' := by decide +kernel

/-- The grid point of a group. -/
def pt (g : Fin 16) : Fin cfg0.N := ⟨g.val, g.isLt⟩
theorem gof_pt (g : Fin 16) : gof (pt g) = g := Fin.ext (coords_val (pt g))

variable {m} {r : PUnit × MemSt nD τ sig (Elt Ideal)} (h : Pipeline.RDat.FramePost cfg0 (rdat m (valRel m)) (V m) r) (c : Dev nD)
include h

theorem loss_arr (g : Fin 16) : ∃ L, IsLoss (grp m c g) L ∧ ∀ j : Fin 1024, r.2.mem ((c : Thread nD τ).loc main_v2_0) (ix2 g j) = L j := by
  obtain ⟨X, hX, hA⟩ := Pipeline.RDat.ArrAt.emb_eq_of_wholeAt ((h c).1 5) lossWhole
  obtain ⟨L, hL, e⟩ := loss_upto m c 15 last_lt X hX g (by omega)
  exact ⟨L, hL, fun j => (hA (ix2 g j)).trans (e j)⟩

theorem du_arr (g : Fin 16) : ∃ G, IsG (grp m c g) G ∧ ∀ (i : Fin 1024) (d : Fin 256),
    r.2.mem ((c : Thread nD τ).loc main_v2_1) (ix3 g i d) = (grp m c g).du G i d := by
  obtain ⟨after, hL, hA⟩ := Pipeline.RDat.FramePost.exists_exact h c
  obtain ⟨G, hG, e⟩ := leaves6 m c (pt g) _ (hL 6 (pt g) (flush0_6 (pt g)))
  rw [gof_pt] at hG e
  refine ⟨G, hG, fun i d => Eq.trans ?_ (e i d)⟩
  have hd := Pipeline.Dat.arrAt_emb_eq_flushed ((rdat m (valRel m) c).withAfter after) 6
    (fun t t' _ _ hne => (cfg0.win 6).disjoint_blk fun e => hne (inj6 t t' e)) (pt g) (flush0_6 (pt g)) (ix3 (0 : Fin 1) i d)
  rw [← hA 6] at hd
  refine Eq.trans (congrArg (r.2.mem ((c : Thread nD τ).loc main_v2_1)) (funext fun a => Fin.ext ?_)) hd
  refine Eq.trans ?_ (Window.rect_emb_val (cfg0.win 6) (pt g) (ix3 (0 : Fin 1) i d) a).symm
  match a with
  | ⟨0, _⟩ => show g.val = win0_6.index (pt g) 0 * 1 + 0; rw [(idx6 (pt g)).1]; show g.val = g.val * 1 + 0; omega
  | ⟨1, _⟩ => show i.val = win0_6.index (pt g) 1 * 1024 + i.val; rw [(idx6 (pt g)).2.1]; omega
  | ⟨2, _⟩ => show d.val = win0_6.index (pt g) 2 * 256 + d.val; rw [(idx6 (pt g)).2.2]; omega

theorem dv_arr (g : Fin 16) : ∃ G, IsG (grp m c g) G ∧ ∀ (i : Fin 1024) (d : Fin 256),
    r.2.mem ((c : Thread nD τ).loc main_v2_2) (ix3 g i d) = (grp m c g).dv G i d := by
  obtain ⟨after, hL, hA⟩ := Pipeline.RDat.FramePost.exists_exact h c
  obtain ⟨G, hG, e⟩ := leaves7 m c (pt g) _ (hL 7 (pt g) (flush0_7 (pt g)))
  rw [gof_pt] at hG e
  refine ⟨G, hG, fun i d => Eq.trans ?_ (e i d)⟩
  have hd := Pipeline.Dat.arrAt_emb_eq_flushed ((rdat m (valRel m) c).withAfter after) 7
    (fun t t' _ _ hne => (cfg0.win 7).disjoint_blk fun e => hne (inj7 t t' e)) (pt g) (flush0_7 (pt g)) (ix3 (0 : Fin 1) i d)
  rw [← hA 7] at hd
  refine Eq.trans (congrArg (r.2.mem ((c : Thread nD τ).loc main_v2_2)) (funext fun a => Fin.ext ?_)) hd
  refine Eq.trans ?_ (Window.rect_emb_val (cfg0.win 7) (pt g) (ix3 (0 : Fin 1) i d) a).symm
  match a with
  | ⟨0, _⟩ => show g.val = win0_7.index (pt g) 0 * 1 + 0; rw [(idx7 (pt g)).1]; show g.val = g.val * 1 + 0; omega
  | ⟨1, _⟩ => show i.val = win0_7.index (pt g) 1 * 1024 + i.val; rw [(idx7 (pt g)).2.1]; omega
  | ⟨2, _⟩ => show d.val = win0_7.index (pt g) 2 * 256 + d.val; rw [(idx7 (pt g)).2.2]; omega

end Cert.KernelIdeal.Hand

end
-- ==== Proof.ReferenceIdealVals.lean ====
/- What the reference computes of one group of real inputs: its losses and its two gradients, as the real numbers they are. -/
module

public import proofs.«01_k».proof.Proof.Gen.ReferenceIdeal.Value
public import proofs.«01_k».proof.Proof.GroupReal
public import Idealize.ShloMosaic.Lib.Pointwise

@[expose] public section

set_option maxRecDepth 16384

noncomputable section

namespace Cert.ReferenceIdeal.Hand

open Idealize.ShloMosaic Cert.ReferenceIdeal Cert.ReferenceIdeal.Gen Cert.Group

theorem ofBits_two : Ideal.ofBits .f32 0x40000000#32 = (2 : EReal) := by
  simp [Ideal.ofBits, Ideal.ieee]
  try (rw [← EReal.coe_mul]; norm_num; rfl)
theorem ofBits_twenty : Ideal.ofBits .f32 0x41A00000#32 = (20 : EReal) := by
  simp [Ideal.ofBits, Ideal.ieee]
  try (rw [← EReal.coe_mul]; norm_num; rfl)
theorem ofBits_neg_inf : Ideal.ofBits .f32 4286578688#32 = (⊥ : EReal) := by
  simp [Ideal.ofBits, Ideal.ieee]

/-- A maximum over a nonempty finite set of real numbers is a real number. -/
theorem fold_real {ι : Type} (s : Finset ι) (hs : s.Nonempty) (f : ι → EReal) (hf : ∀ i, ∃ x : ℝ, f i = (x : EReal)) :
    ∃ x : ℝ, s.fold (max : EReal → EReal → EReal) ⊥ f = (x : EReal) := by
  obtain ⟨i, -, h⟩ := Finset.exists_mem_eq_sup s hs f
  obtain ⟨x, hx⟩ := hf i
  exact ⟨x, (show s.fold (max : EReal → EReal → EReal) ⊥ f = f i from h).trans hx⟩

section
variable (v : FVec Ideal S16x1024x1024 .f32) (hv : ∀ i, ∃ x : ℝ, v i = (x : EReal))
include hv
theorem colMax_real (hφ : FKind.Formats .f32) (hacc : (0xFF800000#32 : BitVec FTy.f32.bits) = FKind.maximumf.neutral .f32 hφ) (j : S16x1024.Idx) :
    ∃ x : ℝ, multiReduction .maximumf [1] S16x1024 v 0xFF800000#32 reduces_S16x1024x1024_S16x1024 hφ hacc j = (x : EReal) := by
  rw [multiReduction_maximumf_eq_fold]
  have h := fold_real (Finset.univ.filter fun i => reduces_S16x1024x1024_S16x1024.drop i = j)
    ⟨_, Finset.mem_filter.mpr ⟨Finset.mem_univ _, (Shape.Reduces.fiber_r3_a1 reduces_S16x1024x1024_S16x1024 j _).mpr ⟨0, rfl⟩⟩⟩ v hv
  rw [← ofBits_neg_inf] at h
  exact h
theorem rowMax_real (hφ : FKind.Formats .f32) (hacc : (0xFF800000#32 : BitVec FTy.f32.bits) = FKind.maximumf.neutral .f32 hφ) (j : S16x1024.Idx) :
    ∃ x : ℝ, multiReduction .maximumf [2] S16x1024 v 0xFF800000#32 reduces_S16x1024x1024_S16x1024_2 hφ hacc j = (x : EReal) := by
  rw [multiReduction_maximumf_eq_fold]
  have h := fold_real (Finset.univ.filter fun i => reduces_S16x1024x1024_S16x1024_2.drop i = j)
    ⟨_, Finset.mem_filter.mpr ⟨Finset.mem_univ _, (Shape.Reduces.fiber_r3_a2 reduces_S16x1024x1024_S16x1024_2 j _).mpr ⟨0, rfl⟩⟩⟩ v hv
  rw [← ofBits_neg_inf] at h
  exact h
end

theorem weird_coe (x : ℝ) : (FloatOps.weird (F := Ideal) ((x : ℝ) : EReal) : BitVec 1) = 0#1 := by
  show BitVec.ofBool (decide (((x : ℝ) : EReal) = ⊤ ∨ ((x : ℝ) : EReal) = ⊥)) = 0#1
  rw [decide_eq_false (by rintro (h | h) <;> [exact EReal.coe_ne_top x h; exact EReal.coe_ne_bot x h])]
  rfl
theorem select_fin (a b : EReal) : Scalar.select (IntOp.xori 0#1 1#1) a b = a := rfl

theorem pay11_at (g : Fin 16) (r t : Fin 1024) : k0_pay11 (ix3 g r t) = if r = t then 1#1 else 0#1 := by
  pointwise [k0_pay11]
  unfold IntOp.cmpi
  by_cases h : r = t
  · subst h; simp
  · have : BitVec.ofNat 32 r.val ≠ BitVec.ofNat 32 t.val := fun e => h (Fin.ext (by
      have := congrArg BitVec.toNat e
      simp only [BitVec.toNat_ofNat] at this
      omega))
    rw [if_neg h, show (BitVec.ofNat 32 r.val == BitVec.ofNat 32 t.val) = false from beq_eq_false_iff_ne.mpr this]
    rfl
theorem select_eye (g : Fin 16) (r t : Fin 1024) (a b : EReal) :
    Scalar.select (k0_pay11 (ix3 g r t)) a b = if r = t then a else b := by
  rw [pay11_at]
  split <;> rfl

variable (P0 : Vec Ideal S16x1024x256 .fp8e4m3) (P1 : Vec Ideal S16x1024 .f32) (P2 : Vec Ideal S16x1024x256 .fp8e4m3) (P3 : Vec Ideal S16x1024 .f32) (P4 : Vec Ideal S16x1024 .f32)

/-- One group of the inputs. -/
def grp (g : Fin 16) : Inp :=
  ⟨fun r d => P0 (ix3 g r d), fun r d => P2 (ix3 g r d), fun t => P1 (ix2 g t), fun t => P3 (ix2 g t), fun t => P4 (ix2 g t)⟩

theorem pay5_at (g : Fin 16) (r t : Fin 1024) :
    k0_pay5 P0 P1 P2 P3 (ix3 g r t) = (∑ x, P0 (ix3 g r x) * P2 (ix3 g t x)) * (P1 (ix2 g r) * P3 (ix2 g t)) * 20 := by
  pointwise [k0_pay5, k0_pay3, k0_pay4]
  rw [ofBits_twenty]
theorem pay6_at (g : Fin 16) (r t : Fin 1024) : k0_pay6 P0 P1 P2 P3 P4 (ix3 g r t) = k0_pay5 P0 P1 P2 P3 (ix3 g r t) - P4 (ix2 g t) := by
  pointwise [k0_pay6]

variable (h : ∀ g, (grp P0 P1 P2 P3 P4 g).IsReal)

theorem pay5_real (g : Fin 16) (r t : Fin 1024) : k0_pay5 P0 P1 P2 P3 (ix3 g r t) = (((h g).s r t : ℝ) : EReal) := by
  rw [pay5_at]
  show (∑ x, (grp P0 P1 P2 P3 P4 g).uc r x * (grp P0 P1 P2 P3 P4 g).vc t x) * ((grp P0 P1 P2 P3 P4 g).us r * (grp P0 P1 P2 P3 P4 g).vs t) * ((20 : ℝ) : EReal) = _
  unfold Inp.IsReal.s
  simp only [(h g).huc, (h g).hvc, (h g).hus, (h g).hvs, ← EReal.coe_mul, coe_sum]
theorem pay6_real (g : Fin 16) (r t : Fin 1024) : k0_pay6 P0 P1 P2 P3 P4 (ix3 g r t) = (((h g).s r t - (h g).lq t : ℝ) : EReal) := by
  rw [pay6_at, pay5_real P0 P1 P2 P3 P4 h, show P4 (ix2 g t) = _ from (h g).hlq t, EReal.coe_sub]

theorem all3 {v : FVec Ideal S16x1024x1024 .f32} {f : Fin 16 → Fin 1024 → Fin 1024 → ℝ} (hv : ∀ g r t, v (ix3 g r t) = ((f g r t : ℝ) : EReal)) (i) :
    ∃ x : ℝ, v i = (x : EReal) := by
  refine ⟨f (i 0) (i 1) (i 2), (congrArg v ?_).trans (hv (i 0) (i 1) (i 2))⟩
  funext a
  match a with
  | ⟨0, _⟩ => rfl
  | ⟨1, _⟩ => rfl
  | ⟨2, _⟩ => rfl

theorem max_bot (x : EReal) : max (Ideal.ofBits .f32 0xFF800000#32) x = x := by
  rw [ofBits_neg_inf]; exact max_eq_right bot_le

/-- A maximum started from −∞. -/
theorem maxf_at (M : FVec Ideal S16x1024 .f32) (j : S16x1024.Idx) :
    maximumf (broadcast S16x1024 (Scalar.ofBits .f32 0xFF800000#32)) M j = M j :=
  max_bot _

include h in
theorem pay8_real (g : Fin 16) (r : Fin 1024) : ∃ x : ℝ, k0_pay8 P0 P1 P2 P3 P4 (ix2 g r) = (x : EReal) := by
  have h6 := all3 (pay6_real P0 P1 P2 P3 P4 h)
  unfold k0_pay8
  generalize k0_pay6 P0 P1 P2 P3 P4 = L at h6
  obtain ⟨x, hx⟩ := rowMax_real L h6 (.inl rfl) rfl (ix2 g r)
  exact ⟨x, (maxf_at (multiReduction .maximumf [2] S16x1024 L 0xFF800000#32 reduces_S16x1024x1024_S16x1024_2 (.inl rfl) rfl) (ix2 g r)).trans hx⟩

theorem abs_pos_coe {x : ℝ} (hx : 0 < x) : (FloatOps.absf (F := Ideal) (φ := .f32) ((x : ℝ) : EReal) : EReal) = (x : EReal) := by
  show max ((x : ℝ) : EReal) (-((x : ℝ) : EReal)) = (x : EReal)
  rw [← EReal.coe_neg]
  exact max_eq_left (EReal.coe_le_coe_iff.mpr (by linarith))

theorem lse_abs (F : Fin 1024 → EReal) (f : Fin 1024 → ℝ) (hF : ∀ t, F t = ((f t : ℝ) : EReal)) (m : ℝ) :
    Ideal.log (FloatOps.absf (F := Ideal) (φ := .f32) (∑ t, Ideal.exp (F t - (m : EReal)))) + (m : EReal) = ((Real.log (∑ t, Real.exp (f t)) : ℝ) : EReal) := by
  have e := lse_e F f hF m
  have hs : (∑ t, Ideal.exp (F t - (m : EReal))) = ((∑ t, Real.exp (f t - m) : ℝ) : EReal) := by
    simp only [hF, ← EReal.coe_sub, exp_coe, coe_sum]
  rw [hs, abs_pos_coe (sum_exp_pos _), ← hs, e, ← EReal.coe_add]
  simp

theorem weird_at (M : FVec Ideal S16x1024 .f32) (j : S16x1024.Idx) (x : ℝ) (hM : M j = (x : EReal)) : weird M j = 0#1 :=
  (congrArg (fun y : EReal => (FloatOps.weird (F := Ideal) y : BitVec 1)) hM).trans (weird_coe x)

theorem pay10_at (L : FVec Ideal S16x1024x1024 .f32) (M : FVec Ideal S16x1024 .f32) (W O : IVec S16x1024 1) (g : Fin 16) (r : Fin 1024) (f : Fin 1024 → ℝ)
    (hL : ∀ t, L (ix3 g r t) = ((f t : ℝ) : EReal)) (x : ℝ) (hM : M (ix2 g r) = (x : EReal)) (hW : W (ix2 g r) = 0#1) (hO : O (ix2 g r) = 1#1) :
    k0_pay10 L M W O (ix2 g r) = ((Real.log (∑ t, Real.exp (f t)) : ℝ) : EReal) := by
  pointwise [k0_pay10]
  rw [hW, hO, select_fin, hM]
  exact lse_abs (fun t => L (ix3 g r t)) _ hL x

theorem pay9_eq : k0_pay9 P0 P1 P2 P3 P4 = weird (k0_pay8 P0 P1 P2 P3 P4) := by unfold k0_pay9; rfl

theorem pay10_real (g : Fin 16) (r : Fin 1024) :
    k0_pay10 (k0_pay6 P0 P1 P2 P3 P4) (k0_pay8 P0 P1 P2 P3 P4) (k0_pay9 P0 P1 P2 P3 P4) (constantI S16x1024 1 1#1) (ix2 g r)
      = ((Real.log (rowsR (h g).s (h g).lq r) : ℝ) : EReal) := by
  obtain ⟨x, hx⟩ := pay8_real P0 P1 P2 P3 P4 h g r
  have h6 := pay6_real P0 P1 P2 P3 P4 h g r
  rw [pay9_eq]
  generalize k0_pay8 P0 P1 P2 P3 P4 = M at hx ⊢
  generalize k0_pay6 P0 P1 P2 P3 P4 = L at h6 ⊢
  exact pay10_at L M _ _ g r (fun t => (h g).s r t - (h g).lq t) h6 x hx (weird_at M _ x hx) rfl

/-- What `k0_pay7` does after its maximum. -/
def colTail (v15 : FVec Ideal S16x1024x1024 .f32) (v19 : FVec Ideal S16x1024 .f32) : FVec Ideal S16x1024 .f32 :=
  have cst_13 : Ideal .f32 := Scalar.ofBits .f32 0xFF800000#32
  have v20 : FVec Ideal S16x1024 .f32 := broadcast S16x1024 cst_13
  have v21 : FVec Ideal S16x1024 .f32 := maximumf v20 v19
  have v22 : IVec S16x1024 1 := weird v21
  have cst_14 : IVec S16x1024 1 := constantI S16x1024 1 1#1
  have v23 : IVec S16x1024 1 := xori v22 cst_14
  have cst_15 : Ideal .f32 := Scalar.ofBits .f32 0x00000000#32
  have v24 : FVec Ideal S16x1024 .f32 := broadcast S16x1024 cst_15
  have v25 : FVec Ideal S16x1024 .f32 := select v23 v21 v24
  have v26 : FVec Ideal S16x1x1024 .f32 := shapeCast S16x1x1024 v25 shapeCasts_S16x1024_S16x1x1024
  have v27 : FVec Ideal S16x1024x1024 .f32 := broadcastTo S16x1024x1024 v26 broadcasts_S16x1x1024_S16x1024x1024
  have v28 : FVec Ideal S16x1024x1024 .f32 := subf v15 v27
  have v29 : FVec Ideal S16x1024x1024 .f32 := exp v28
  have v30 : FVec Ideal S16x1024 .f32 := multiReduction .add [1] S16x1024 v29 0x00000000#32 reduces_S16x1024x1024_S16x1024 (.inl rfl) rfl
  have v31 : FVec Ideal S16x1024 .f32 := absf v30
  have v32 : FVec Ideal S16x1024 .f32 := log v31
  have v33 : FVec Ideal S16x1024 .f32 := addf v32 v25
  v33

theorem pay7_eq : k0_pay7 P0 P1 P2 P3 = colTail (k0_pay5 P0 P1 P2 P3) (multiReduction .maximumf [1] S16x1024 (k0_pay5 P0 P1 P2 P3) 0xFF800000#32 reduces_S16x1024x1024_S16x1024 (.inl rfl) rfl) := rfl

theorem colTail_at (L : FVec Ideal S16x1024x1024 .f32) (M : FVec Ideal S16x1024 .f32) (g : Fin 16) (t : Fin 1024) (f : Fin 1024 → ℝ)
    (hL : ∀ r, L (ix3 g r t) = ((f r : ℝ) : EReal)) (x : ℝ) (hM : M (ix2 g t) = (x : EReal)) :
    colTail L M (ix2 g t) = ((Real.log (∑ r, Real.exp (f r)) : ℝ) : EReal) := by
  pointwise [colTail]
  rw [max_bot, hM, weird_coe, select_fin]
  exact lse_abs (fun r => L (ix3 g r t)) _ hL x

theorem pay7_real (g : Fin 16) (t : Fin 1024) :
    k0_pay7 P0 P1 P2 P3 (ix2 g t) = ((Real.log (colsR (h g).s t) : ℝ) : EReal) := by
  have ha := all3 (pay5_real P0 P1 P2 P3 P4 h)
  have h5 := fun r => pay5_real P0 P1 P2 P3 P4 h g r t
  rw [pay7_eq]
  generalize k0_pay5 P0 P1 P2 P3 = L at ha h5
  obtain ⟨x, hx⟩ := colMax_real L ha (.inl rfl) rfl (ix2 g t)
  exact colTail_at L _ g t (fun r => (h g).s r t) h5 x hx

/-- The loss of a row. -/
theorem loss_real (g : Fin 16) (t : Fin 1024) :
    k0_pay12 P4 (k0_pay5 P0 P1 P2 P3) (k0_pay6 P0 P1 P2 P3 P4) (k0_pay7 P0 P1 P2 P3) (k0_pay8 P0 P1 P2 P3 P4) (k0_pay9 P0 P1 P2 P3 P4) (constantI S16x1024 1 1#1) (ix2 g t)
      = ((lossR (h g).s (h g).lq t : ℝ) : EReal) := by
  have h10 := pay10_real P0 P1 P2 P3 P4 h g t
  have h7 := pay7_real P0 P1 P2 P3 P4 h g t
  have h5 := fun r => pay5_real P0 P1 P2 P3 P4 h g r
  generalize k0_pay9 P0 P1 P2 P3 P4 = W at h10 ⊢
  generalize k0_pay8 P0 P1 P2 P3 P4 = M at h10 ⊢
  generalize k0_pay7 P0 P1 P2 P3 = C at h7 ⊢
  generalize k0_pay6 P0 P1 P2 P3 P4 = L at h10 ⊢
  generalize k0_pay5 P0 P1 P2 P3 = S at h5 ⊢
  generalize constantI S16x1024 1 1#1 = O at h10 ⊢
  pointwise [k0_pay12]
  simp only [select_eye]
  rw [Finset.sum_ite_eq, if_pos (Finset.mem_univ _), h10, h7, h5, show P4 (ix2 g t) = _ from (h g).hlq t]
  simp only [← EReal.coe_sub, ← EReal.coe_add]
  rfl

/-- The factor both gradients are made of. -/
theorem g_real (g : Fin 16) (r t : Fin 1024) :
    k0_pay13 (k0_pay5 P0 P1 P2 P3) (k0_pay6 P0 P1 P2 P3 P4) (k0_pay7 P0 P1 P2 P3) (k0_pay8 P0 P1 P2 P3 P4) (k0_pay9 P0 P1 P2 P3 P4) (constantI S16x1024 1 1#1) (ix3 g r t)
      = ((gR (h g).s (h g).lq r t : ℝ) : EReal) := by
  have h10 := pay10_real P0 P1 P2 P3 P4 h g r
  have h7 := pay7_real P0 P1 P2 P3 P4 h g t
  have h6 := pay6_real P0 P1 P2 P3 P4 h g r t
  have h5 := pay5_real P0 P1 P2 P3 P4 h g r t
  generalize k0_pay9 P0 P1 P2 P3 P4 = W at h10 ⊢
  generalize k0_pay8 P0 P1 P2 P3 P4 = M at h10 ⊢
  generalize k0_pay7 P0 P1 P2 P3 = C at h7 ⊢
  generalize k0_pay6 P0 P1 P2 P3 P4 = L at h10 h6 ⊢
  generalize k0_pay5 P0 P1 P2 P3 = S at h5 ⊢
  generalize constantI S16x1024 1 1#1 = O at h10 ⊢
  pointwise [k0_pay13]
  rw [select_eye, h10, h7, h6, h5, ofBits_two, show (2 : EReal) = ((2 : ℝ) : EReal) from rfl]
  simp only [← EReal.coe_sub, exp_coe, ← EReal.coe_add]
  unfold gR
  split
  · rfl
  · rw [sub_zero]

/-- The row gradients, -/
theorem du_real (g : Fin 16) (r : Fin 1024) (d : Fin 256) :
    k0_pay1 (k0_pay14 (k0_pay4 P2) P3 (k0_pay5 P0 P1 P2 P3) (k0_pay6 P0 P1 P2 P3 P4) (k0_pay7 P0 P1 P2 P3) (k0_pay8 P0 P1 P2 P3 P4) (k0_pay9 P0 P1 P2 P3 P4) (constantI S16x1024 1 1#1)) (ix3 g r d)
      = (grp P0 P1 P2 P3 P4 g).du (fun r t => ((gR (h g).s (h g).lq r t : ℝ) : EReal)) r d := by
  have hg := fun t => g_real P0 P1 P2 P3 P4 h g r t
  generalize k0_pay9 P0 P1 P2 P3 P4 = W at hg ⊢
  generalize k0_pay8 P0 P1 P2 P3 P4 = M at hg ⊢
  generalize k0_pay7 P0 P1 P2 P3 = C at hg ⊢
  generalize k0_pay6 P0 P1 P2 P3 P4 = L at hg ⊢
  generalize k0_pay5 P0 P1 P2 P3 = S at hg ⊢
  generalize constantI S16x1024 1 1#1 = O at hg ⊢
  pointwise [k0_pay1, k0_pay14, k0_pay4]
  simp only [hg, ofBits_twenty]
  rfl
/-- and the column gradients. -/
theorem dv_real (g : Fin 16) (t : Fin 1024) (d : Fin 256) :
    k0_pay2 (k0_pay15 (k0_pay3 P0) P1 (k0_pay5 P0 P1 P2 P3) (k0_pay6 P0 P1 P2 P3 P4) (k0_pay7 P0 P1 P2 P3) (k0_pay8 P0 P1 P2 P3 P4) (k0_pay9 P0 P1 P2 P3 P4) (constantI S16x1024 1 1#1)) (ix3 g t d)
      = (grp P0 P1 P2 P3 P4 g).dv (fun r t => ((gR (h g).s (h g).lq r t : ℝ) : EReal)) t d := by
  have hg := fun r => g_real P0 P1 P2 P3 P4 h g r t
  generalize k0_pay9 P0 P1 P2 P3 P4 = W at hg ⊢
  generalize k0_pay8 P0 P1 P2 P3 P4 = M at hg ⊢
  generalize k0_pay7 P0 P1 P2 P3 = C at hg ⊢
  generalize k0_pay6 P0 P1 P2 P3 P4 = L at hg ⊢
  generalize k0_pay5 P0 P1 P2 P3 = S at hg ⊢
  generalize constantI S16x1024 1 1#1 = O at hg ⊢
  pointwise [k0_pay2, k0_pay15, k0_pay3]
  simp only [hg, ofBits_twenty]
  rfl

end Cert.ReferenceIdeal.Hand

end
-- ==== Proof.ReferenceIdealArrays.lean ====
/- The reference's three output arrays, as functions of its arguments. -/
module

public import proofs.«01_k».proof.Proof.ReferenceIdealVals
public import Idealize.ShloMosaic.Lib.Pipeline.ValueKit.Geometry

@[expose] public section

set_option maxRecDepth 16384

noncomputable section

namespace Cert.ReferenceIdeal.Hand

open Idealize.ShloMosaic Idealize.ShloMosaic.TcCoe Cert.ReferenceIdeal Cert.ReferenceIdeal.Gen Cert.Group
open Idealize.ShloMosaic.Pipeline (Dat Cfg Window)

/-! ## Whole loads and stores -/

theorem ld0 {e : EltTy} (x : Vec Ideal S16x1024x256 e) : View.ld x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem ld1 {e : EltTy} (x : Vec Ideal S16x1024 e) : View.ld x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega
theorem canon0 (p : Vec Ideal S16x1024x256 .bf16) : View.canon (Val := Elt Ideal) [⟨r0_0, p⟩] = p := by
  funext y
  refine View.canon_apply_of_pieces p _ (fun q hq x => ?_) y (cover0_6 _ y)
  rcases List.mem_cons.mp hq with rfl | hq
  · exact congrFun (ld0 p).symm x
  nomatch hq
theorem canon1 (p : Vec Ideal S16x1024 .f32) : View.canon (Val := Elt Ideal) [⟨r0_1, p⟩] = p := by
  funext y
  refine View.canon_apply_of_pieces p _ (fun q hq x => ?_) y (cover0_5 _ y)
  rcases List.mem_cons.mp hq with rfl | hq
  · exact congrFun (ld1 p).symm x
  nomatch hq

variable (m : (ℓ : Loc nD τ sig) → Buf (Elt Ideal) ℓ)

/-- The one grid point. -/
def t0 : Fin cfg0.N := ⟨0, by decide⟩

/-! ## The blocks are the arrays -/

theorem blk0 (c : Dev nD) : iblk m c 0 t0 = V m c (Pipeline.arrRef spec0 0) :=
  funext fun y => congrArg (V m c (Pipeline.arrRef spec0 0)) (funext fun a => Fin.ext (Window.rect_emb_val_of_index_zero (cfg0.win 0) t0 a (by revert a; decide +kernel) y))
theorem blk1 (c : Dev nD) : iblk m c 1 t0 = V m c (Pipeline.arrRef spec0 1) :=
  funext fun y => congrArg (V m c (Pipeline.arrRef spec0 1)) (funext fun a => Fin.ext (Window.rect_emb_val_of_index_zero (cfg0.win 1) t0 a (by revert a; decide +kernel) y))
theorem blk2 (c : Dev nD) : iblk m c 2 t0 = V m c (Pipeline.arrRef spec0 2) :=
  funext fun y => congrArg (V m c (Pipeline.arrRef spec0 2)) (funext fun a => Fin.ext (Window.rect_emb_val_of_index_zero (cfg0.win 2) t0 a (by revert a; decide +kernel) y))
theorem blk3 (c : Dev nD) : iblk m c 3 t0 = V m c (Pipeline.arrRef spec0 3) :=
  funext fun y => congrArg (V m c (Pipeline.arrRef spec0 3)) (funext fun a => Fin.ext (Window.rect_emb_val_of_index_zero (cfg0.win 3) t0 a (by revert a; decide +kernel) y))
theorem blk4 (c : Dev nD) : iblk m c 4 t0 = V m c (Pipeline.arrRef spec0 4) :=
  funext fun y => congrArg (V m c (Pipeline.arrRef spec0 4)) (funext fun a => Fin.ext (Window.rect_emb_val_of_index_zero (cfg0.win 4) t0 a (by revert a; decide +kernel) y))

/-- The codes reach the kernel unchanged: at exact reals a conversion is the identity. -/
theorem V_codes0 (c : Dev nD) : V m c main_v0 = m ((c : Thread nD τ).loc main_arg0) := by
  simp only [V, hostOps0, StableHlo.after_cons, StableHlo.after_nil]
  rfl
theorem V_codes1 (c : Dev nD) : V m c main_v1 = m ((c : Thread nD τ).loc main_arg2) := by
  simp only [V, hostOps0, StableHlo.after_cons, StableHlo.after_nil]
  rfl

/-- The arguments as launched. -/
abbrev a0 (c : Dev nD) : Vec Ideal S16x1024x256 .fp8e4m3 := m ((c : Thread nD τ).loc main_arg0)
abbrev a1 (c : Dev nD) : Vec Ideal S16x1024 .f32 := m ((c : Thread nD τ).loc main_arg1)
abbrev a2 (c : Dev nD) : Vec Ideal S16x1024x256 .fp8e4m3 := m ((c : Thread nD τ).loc main_arg2)
abbrev a3 (c : Dev nD) : Vec Ideal S16x1024 .f32 := m ((c : Thread nD τ).loc main_arg3)
abbrev a4 (c : Dev nD) : Vec Ideal S16x1024 .f32 := m ((c : Thread nD τ).loc main_arg4)

theorem in0 (c : Dev nD) : iblk m c 0 t0 = a0 m c := (blk0 m c).trans (V_codes0 m c)
theorem in1 (c : Dev nD) : iblk m c 1 t0 = a1 m c := (blk1 m c).trans (V_main_arg1 m c)
theorem in2 (c : Dev nD) : iblk m c 2 t0 = a2 m c := (blk2 m c).trans (V_codes1 m c)
theorem in3 (c : Dev nD) : iblk m c 3 t0 = a3 m c := (blk3 m c).trans (V_main_arg3 m c)
theorem in4 (c : Dev nD) : iblk m c 4 t0 = a4 m c := (blk4 m c).trans (V_main_arg4 m c)

/-! ## The stores -/

section
variable (P0 : Vec Ideal S16x1024x256 .fp8e4m3) (P1 : Vec Ideal S16x1024 .f32) (P2 : Vec Ideal S16x1024x256 .fp8e4m3) (P3 : Vec Ideal S16x1024 .f32) (P4 : Vec Ideal S16x1024 .f32)
theorem out5_eq : out0_5 P0 P1 P2 P3 P4
    = k0_pay12 P4 (k0_pay5 P0 P1 P2 P3) (k0_pay6 P0 P1 P2 P3 P4) (k0_pay7 P0 P1 P2 P3) (k0_pay8 P0 P1 P2 P3 P4) (k0_pay9 P0 P1 P2 P3 P4) (constantI S16x1024 1 1#1) := by
  unfold_out out0_5
  rw [canon1]
  simp only [ld0, ld1]
theorem out6_eq : out0_6 P0 P1 P2 P3 P4
    = k0_pay1 (k0_pay14 (k0_pay4 P2) P3 (k0_pay5 P0 P1 P2 P3) (k0_pay6 P0 P1 P2 P3 P4) (k0_pay7 P0 P1 P2 P3) (k0_pay8 P0 P1 P2 P3 P4) (k0_pay9 P0 P1 P2 P3 P4) (constantI S16x1024 1 1#1)) := by
  unfold_out out0_6
  rw [canon0]
  simp only [ld0, ld1]
theorem out7_eq : out0_7 P0 P1 P2 P3 P4
    = k0_pay2 (k0_pay15 (k0_pay3 P0) P1 (k0_pay5 P0 P1 P2 P3) (k0_pay6 P0 P1 P2 P3 P4) (k0_pay7 P0 P1 P2 P3) (k0_pay8 P0 P1 P2 P3 P4) (k0_pay9 P0 P1 P2 P3 P4) (constantI S16x1024 1 1#1)) := by
  unfold_out out0_7
  rw [canon0]
  simp only [ld0, ld1]
end

/-! ## The output arrays -/

theorem whole5 : (cfg0.win 5).WholeAt t0 := by decide +kernel
theorem whole6 : (cfg0.win 6).WholeAt t0 := by decide +kernel
theorem whole7 : (cfg0.win 7).WholeAt t0 := by decide +kernel

variable (c : Dev nD) (h : ∀ g, (grp (a0 m c) (a1 m c) (a2 m c) (a3 m c) (a4 m c) g).IsReal)

theorem arr5 (g : Fin 16) (t : Fin 1024) :
    (dats m 0 c).arrAt 5 cfg0.N (ix2 g t) = ((lossR (h g).s (h g).lq t : ℝ) : EReal) := by
  refine ((dats m 0 c).arrAt_emb_eq_after_last 5 t0 whole5 (ix2 g t)).trans ?_
  show (dats m 0 c).after 5 t0 (ix2 g t) = _
  rw [after0_5, in0, in1, in2, in3, in4, out5_eq]
  exact loss_real _ _ _ _ _ h g t
theorem arr6 (g : Fin 16) (r : Fin 1024) (d : Fin 256) :
    (dats m 0 c).arrAt 6 cfg0.N (ix3 g r d)
      = (grp (a0 m c) (a1 m c) (a2 m c) (a3 m c) (a4 m c) g).du (fun r t => ((gR (h g).s (h g).lq r t : ℝ) : EReal)) r d := by
  refine ((dats m 0 c).arrAt_emb_eq_after_last 6 t0 whole6 (ix3 g r d)).trans ?_
  show (dats m 0 c).after 6 t0 (ix3 g r d) = _
  rw [after0_6, in0, in1, in2, in3, in4, out6_eq]
  exact du_real _ _ _ _ _ h g r d
theorem arr7 (g : Fin 16) (t : Fin 1024) (d : Fin 256) :
    (dats m 0 c).arrAt 7 cfg0.N (ix3 g t d)
      = (grp (a0 m c) (a1 m c) (a2 m c) (a3 m c) (a4 m c) g).dv (fun r t => ((gR (h g).s (h g).lq r t : ℝ) : EReal)) t d := by
  refine ((dats m 0 c).arrAt_emb_eq_after_last 7 t0 whole7 (ix3 g t d)).trans ?_
  show (dats m 0 c).after 7 t0 (ix3 g t d) = _
  rw [after0_7, in0, in1, in2, in3, in4, out7_eq]
  exact dv_real _ _ _ _ _ h g t d

end Cert.ReferenceIdeal.Hand

end
-- ==== Proof.Finite.lean ====
/- What the precondition says: every entry of the five arguments is a real number. -/
module

public import proofs.«01_k».proof.Pre_finite
public import proofs.«01_k».proof.Proof.Gen.Pre_finite
public import Idealize.ShloMosaic.Lib.ReduceAll
public import Idealize.ShloMosaic.Lib.Pointwise

@[expose] public section

noncomputable section

namespace Cert.Pre_finite.Hand

open Idealize.ShloMosaic Cert.Pre_finite

theorem ofBits_inf : Ideal.ofBits .f32 0x7F800000#32 = (⊤ : EReal) := by
  simp [Ideal.ofBits, Ideal.ieee]

/-- A magnitude below +∞ is a real number's. -/
theorem real_of_abs_lt (x : EReal) (h : (FloatOps.cmpf (F := Ideal) (φ := .f32) .olt (max x (-x)) (Ideal.ofBits .f32 0x7F800000#32)) = 1#1) : ∃ r : ℝ, x = (r : EReal) := by
  rw [ofBits_inf] at h
  have hlt : max x (-x) < ⊤ := by
    by_contra hc
    have : (FloatOps.cmpf (F := Ideal) (φ := .f32) .olt (max x (-x)) (⊤ : EReal)) = 0#1 := by
      show BitVec.ofBool (decide (max x (-x) < ⊤)) = 0#1
      rw [decide_eq_false hc]; rfl
    rw [this] at h
    exact absurd h (by decide)
  induction x with
  | bot => exact absurd hlt (by simp)
  | top => exact absurd hlt (by simp)
  | coe r => exact ⟨r, rfl⟩

instance : Subsingleton S_.Idx := ⟨fun a b => funext fun i => i.elim0⟩

variable [Facts]

theorem all3 (x : FVec Ideal S16x1024x256 .f32) (j : S_.Idx)
    (e : Host.reduce IntOp.andi (cmpf .olt (Host.absf x) (broadcastInDim S16x1024x256 ![] Facts.bcast_S_S16x1024x256 (constant S_ .f32 0x7F800000#32))) (constantI S_ 1 1#1) Facts.reducesTo_S16x1024x256_S_d0_1_2 Facts.h_S_ j = 1#1)
    (i : S16x1024x256.Idx) : ∃ r : ℝ, x i = (r : EReal) :=
  real_of_abs_lt (x i) (Host.reduce_andi_all _ _ _ _ j e i)
theorem all2 (x : FVec Ideal S16x1024 .f32) (j : S_.Idx)
    (e : Host.reduce IntOp.andi (cmpf .olt (Host.absf x) (broadcastInDim S16x1024 ![] Facts.bcast_S_S16x1024 (constant S_ .f32 0x7F800000#32))) (constantI S_ 1 1#1) Facts.reducesTo_S16x1024_S_d0_1 Facts.h_S_ j = 1#1)
    (i : S16x1024.Idx) : ∃ r : ℝ, x i = (r : EReal) :=
  real_of_abs_lt (x i) (Host.reduce_andi_all _ _ _ _ j e i)

theorem real_of_fn (a0 : FVec Ideal S16x1024x256 .f32) (a1 : FVec Ideal S16x1024 .f32) (a2 : FVec Ideal S16x1024x256 .f32) (a3 a4 : FVec Ideal S16x1024 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ ∀ i, ∃ r : ℝ, a4 i = (r : EReal) := by
  let j : S_.Idx := fun a => a.elim0
  have e := congrFun h j
  unfold fn fn_part1 at e
  have key : ∀ a b : BitVec 1, IntOp.andi a b = 1#1 → a = 1#1 ∧ b = 1#1 := by decide
  obtain ⟨e, e4⟩ := key _ _ e
  obtain ⟨e, e3⟩ := key _ _ e
  obtain ⟨e, e2⟩ := key _ _ e
  obtain ⟨e0, e1⟩ := key _ _ e
  exact ⟨all3 a0 j e0, all2 a1 j e1, all3 a2 j e2, all2 a3 j e3, all2 a4 j e4⟩

end Cert.Pre_finite.Hand

end
-- ==== Proof.lean ====
module

public import proofs.«01_k».proof.Defs
public import proofs.«01_k».proof.Proof.KernelFrame
public import proofs.«01_k».proof.Proof.KernelIdealFrame
public import proofs.«01_k».proof.Proof.KernelIdealArrays
public import proofs.«01_k».proof.Proof.Gen.ReferenceIdeal
public import proofs.«01_k».proof.Proof.Gen.ReferenceIdeal.Frame
public import proofs.«01_k».proof.Proof.Gen.ReferenceIdeal.Value
public import proofs.«01_k».proof.Proof.ReferenceIdealArrays
public import proofs.«01_k».proof.Proof.Gen.Pre_finite
public import proofs.«01_k».proof.Proof.Finite

@[expose] public section

noncomputable section

namespace Cert.Proof

open Idealize.ShloMosaic Idealize.ShloMosaic.TcCoe Idealize.SL.Sem Cert.Group

theorem preserves : Cert.preserves_Kernel_KernelIdeal :=
  ⟨IdealRules.named_const.statement _ _ _ _ _ rfl, IdealRules.named_const.statement _ _ _ _ _ rfl,
    IdealRules.named_const.statement _ _ _ _ _ rfl⟩

theorem eta2 {a b : Nat} (i : (⟨2, ![a, b]⟩ : Shape).Idx) : i = ix2 (i 0) (i 1) := by
  funext k
  match k with
  | ⟨0, _⟩ => rfl
  | ⟨1, _⟩ => rfl
theorem eta3 {a b c : Nat} (i : (⟨3, ![a, b, c]⟩ : Shape).Idx) : i = ix3 (i 0) (i 1) (i 2) := by
  funext k
  match k with
  | ⟨0, _⟩ => rfl
  | ⟨1, _⟩ => rfl
  | ⟨2, _⟩ => rfl
/-- Two arrays equal at every written-out index are equal. -/
theorem ext2 {a b : Nat} {f g : (⟨2, ![a, b]⟩ : Shape).Idx → EReal} (h : ∀ x y, f (ix2 x y) = g (ix2 x y)) : f = g :=
  funext fun i => by rw [eta2 i]; exact h _ _
theorem ext3 {a b c : Nat} {f g : (⟨3, ![a, b, c]⟩ : Shape).Idx → EReal} (h : ∀ x y z, f (ix3 x y z) = g (ix3 x y z)) : f = g :=
  funext fun i => by rw [eta3 i]; exact h _ _ _

/-- On finite arguments the kernel's three results are the reference's. -/
theorem algebraic : Cert.algebraic_KernelIdeal_ReferenceIdeal_pre_finite := fun m g m' g' hpre hargs => by
  have hfin := fun c => Cert.Pre_finite.Hand.real_of_fn _ _ _ _ _ (hpre c)
  choose u0 h0 using fun c => (hfin c).1
  choose u1 h1 using fun c => (hfin c).2.1
  choose u2 h2 using fun c => (hfin c).2.2.1
  choose u3 h3 using fun c => (hfin c).2.2.2.1
  choose u4 h4 using fun c => (hfin c).2.2.2.2
  let hK : ∀ c g, (Cert.KernelIdeal.Hand.grp m c g).IsReal := fun c g =>
    ⟨fun r d => u0 c (ix3 g r d), fun r d => u2 c (ix3 g r d), fun t => u1 c (ix2 g t), fun t => u3 c (ix2 g t), fun t => u4 c (ix2 g t),
      fun r d => h0 c _, fun r d => h2 c _, fun t => h1 c _, fun t => h3 c _, fun t => h4 c _⟩
  let hR : ∀ c g, (Cert.ReferenceIdeal.Hand.grp (Cert.ReferenceIdeal.Hand.a0 m' c) (Cert.ReferenceIdeal.Hand.a1 m' c) (Cert.ReferenceIdeal.Hand.a2 m' c) (Cert.ReferenceIdeal.Hand.a3 m' c) (Cert.ReferenceIdeal.Hand.a4 m' c) g).IsReal := fun c g =>
    ⟨fun r d => u0 c (ix3 g r d), fun r d => u2 c (ix3 g r d), fun t => u1 c (ix2 g t), fun t => u3 c (ix2 g t), fun t => u4 c (ix2 g t),
      fun r d => (congrFun (hargs c).1 _).trans (h0 c _), fun r d => (congrFun (hargs c).2.2.1 _).trans (h2 c _), fun t => (congrFun (hargs c).2.1 _).trans (h1 c _),
      fun t => (congrFun (hargs c).2.2.2.1 _).trans (h3 c _), fun t => (congrFun (hargs c).2.2.2.2 _).trans (h4 c _)⟩
  have e : ∀ c g, Cert.ReferenceIdeal.Hand.grp (Cert.ReferenceIdeal.Hand.a0 m' c) (Cert.ReferenceIdeal.Hand.a1 m' c) (Cert.ReferenceIdeal.Hand.a2 m' c) (Cert.ReferenceIdeal.Hand.a3 m' c) (Cert.ReferenceIdeal.Hand.a4 m' c) g
      = Cert.KernelIdeal.Hand.grp m c g := fun c g => by
    unfold Cert.ReferenceIdeal.Hand.grp Cert.KernelIdeal.Hand.grp
    rw [show Cert.ReferenceIdeal.Hand.a0 m' c = Cert.KernelIdeal.Hand.a0 m c from (hargs c).1,
      show Cert.ReferenceIdeal.Hand.a1 m' c = Cert.KernelIdeal.Hand.a1 m c from (hargs c).2.1,
      show Cert.ReferenceIdeal.Hand.a2 m' c = Cert.KernelIdeal.Hand.a2 m c from (hargs c).2.2.1,
      show Cert.ReferenceIdeal.Hand.a3 m' c = Cert.KernelIdeal.Hand.a3 m c from (hargs c).2.2.2.1,
      show Cert.ReferenceIdeal.Hand.a4 m' c = Cert.KernelIdeal.Hand.a4 m c from (hargs c).2.2.2.2]
  let G : Dev Cert.KernelIdeal.nD → Fin 16 → Fin 1024 → Fin 1024 → EReal := fun c g r t => ((gR (hK c g).s (hK c g).lq r t : ℝ) : EReal)
  refine ⟨fun c i => ((lossR (hK c (i 0)).s (hK c (i 0)).lq (i 1) : ℝ) : EReal),
    fun c i => (Cert.KernelIdeal.Hand.grp m c (i 0)).du (G c (i 0)) (i 1) (i 2),
    fun c i => (Cert.KernelIdeal.Hand.grp m c (i 0)).dv (G c (i 0)) (i 1) (i 2), ?_, ?_⟩
  · refine (θ_run _ _ _).mono (fun r h c => ?_) (Cert.KernelIdeal.Hand.run_of m g (Cert.KernelIdeal.Hand.bodySpec_vals m))
    refine ⟨ext2 fun x y => ?_, ext3 fun x y z => ?_, ext3 fun x y z => ?_, Cert.KernelIdeal.Hand.args_of_post m h.1 c⟩
    · obtain ⟨L, hL, q⟩ := Cert.KernelIdeal.Hand.loss_arr h.1 c x
      exact (q y).trans ((hK c x).loss hL y)
    · obtain ⟨W, hW, q⟩ := Cert.KernelIdeal.Hand.du_arr h.1 c x
      refine (q y z).trans ?_
      rw [(hK c x).g hW]
      rfl
    · obtain ⟨W, hW, q⟩ := Cert.KernelIdeal.Hand.dv_arr h.1 c x
      refine (q y z).trans ?_
      rw [(hK c x).g hW]
      rfl
  · refine (θ_run _ _ _).mono (fun r h c => ?_) (Cert.ReferenceIdeal.Value.run_blocks m' g')
    refine ⟨(h c).1.trans (ext2 fun x y => ?_), (h c).2.1.trans (ext3 fun x y z => ?_), (h c).2.2.1.trans (ext3 fun x y z => ?_), (h c).2.2.2⟩
    · exact Cert.ReferenceIdeal.Hand.arr5 m' c (hR c) x y
    · exact (Cert.ReferenceIdeal.Hand.arr6 m' c (hR c) x y z).trans (congrArg (fun I : Inp => I.du (G c x) y z) (e c x))
    · exact (Cert.ReferenceIdeal.Hand.arr7 m' c (hR c) x y z).trans (congrArg (fun I : Inp => I.dv (G c x) y z) (e c x))

theorem claim : Cert.Claim := ⟨Cert.Kernel.Gen.facts, Cert.KernelIdeal.Gen.facts, Cert.ReferenceIdeal.Gen.facts, Cert.Pre_finite.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  preserves,
  algebraic⟩

end Cert.Proof

end
